-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .bf16) (main_arg1 : FVec F S512x256 .bf16) (main_arg2 : FVec F S2x128x16x64 .bf16) (main_arg3 : FVec F S2x128x16x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x128x16x64 .f32 := (extf .f32 · bitsLt_bf16_f32) main_arg2
  let main_v12 : FVec F S2x128x16x64 .f32 := Host.absf main_v11
  let main_cst_2 : FVec F S_ .f32 := constant S_ .f32 0x7F800000#32
  let main_v13 : FVec F S2x128x16x64 .f32 := broadcastInDim S2x128x16x64 ![] bcast_S_S2x128x16x64 main_cst_2
  let main_v14 : IVec S2x128x16x64 1 := cmpf .olt main_v12 main_v13
  let main_c_3 : IVec S_ 1 := constantI S_ 1 1#1
  let main_v15 : IVec S_ 1 := (fun x v => Host.reduce IntOp.andi x v reducesTo_S2x128x16x64_S_d0_1_2_3 h_S_) main_v14 main_c_3
  let main_v16 : IVec S_ 1 := andi main_v10 main_v15
  main_v16
-- ==== Pre_finite_ReferenceIdeal.lean ====
abbrev S2x128x512 : Shape := ⟨3, ![2, 128, 512]⟩
abbrev S512x1024 : Shape := ⟨2, ![512, 1024]⟩
abbrev S2x512x16x64 : Shape := ⟨4, ![2, 512, 16, 64]⟩
abbrev S1024x512 : Shape := ⟨2, ![1024, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x512x16x64 : S_.BroadcastsInDim S2x512x16x64 (![] : Fin 0 → Fin S2x512x16x64.rank)
  reducesTo_S2x512x16x64_S_d0_1_2_3 : S2x512x16x64.ReducesTo [0, 1, 2, 3] S_

variable [Facts]

def fn {F : FTy → Type} [FloatOps F] (main_arg0 : FVec F S2x128x512 .bf16) (main_arg1 : FVec F S512x1024 .bf16) (main_arg2 : FVec F S2x512x16x64 .bf16) (main_arg3 : FVec F S2x512x16x64 .bf16) (main_arg4 : FVec F S1024x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x1024 .f32 := (extf .f32 · bitsLt_bf16_f32) main_arg1
  let main_v6 : FVec F S512x1024 .f32 := Host.absf main_v5
  let main_cst_0 : FVec F S_ .f32 := constant S_ .f32 0x7F800000#32
  let main_v7 : FVec F S512x1024 .f32 := broadcastInDim S512x1024 ![] bcast_S_S512x1024 main_cst_0
  let main_v8 : IVec S512x1024 1 := cmpf .olt main_v6 main_v7
  let main_c_1 : IVec S_ 1 := constantI S_ 1 1#1
  let main_v9 : IVec S_ 1 := (fun x v => Host.reduce IntOp.andi x v reducesTo_S512x1024_S_d0_1 h_S_) main_v8 main_c_1
  let main_v10 : IVec S_ 1 := andi main_v4 main_v9
  let main_v11 : FVec F S2x512x16x64 .f32 := (extf .f32 · bitsLt_bf16_f32) main_arg2
  let main_v12 : FVec F S2x512x16x64 .f32 := Host.absf main_v11
  let main_cst_2 : FVec F S_ .f32 := constant S_ .f32 0x7F800000#32
  let main_v13 : FVec F S2x512x16x64 .f32 := broadcastInDim S2x512x16x64 ![] bcast_S_S2x512x16x64 main_cst_2
  let main_v14 : IVec S2x512x16x64 1 := cmpf .olt main_v12 main_v13
  let main_c_3 : IVec S_ 1 := constantI S_ 1 1#1
  let main_v15 : IVec S_ 1 := (fun x v => Host.reduce IntOp.andi x v reducesTo_S2x512x16x64_S_d0_1_2_3 h_S_) main_v14 main_c_3
  let main_v16 : IVec S_ 1 := andi main_v10 main_v15
  main_v16
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S16x2x128x64 : Shape := ⟨4, ![16, 2, 128, 64]⟩
abbrev S2x2x4x2x128x64 : Shape := ⟨6, ![2, 2, 4, 2, 128, 64]⟩
abbrev S4x2x128x512 : Shape := ⟨4, ![4, 2, 128, 512]⟩
abbrev S2x2 : Shape := ⟨2, ![2, 2]⟩
abbrev S8 : Shape := ⟨1, ![8]⟩
abbrev S3 : Shape := ⟨1, ![3]⟩
abbrev S_ : Shape := ⟨0, ![]⟩
abbrev S4x2x128x64 : Shape := ⟨4, ![4, 2, 128, 64]⟩
abbrev S1x1x4x2x128x64 : Shape := ⟨6, ![1, 1, 4, 2, 128, 64]⟩
abbrev S1 : Shape := ⟨1, ![1]⟩
abbrev S1x1 : Shape := ⟨2, ![1, 1]⟩
abbrev S256x256 : Shape := ⟨2, ![256, 256]⟩
abbrev S2x128x4x64 : Shape := ⟨4, ![2, 128, 4, 64]⟩
abbrev S8x128x64 : Shape := ⟨3, ![8, 128, 64]⟩
abbrev S4x2x256x64 : Shape := ⟨4, ![4, 2, 256, 64]⟩
abbrev S8x256x64 : Shape := ⟨3, ![8, 256, 64]⟩
abbrev S8x128x256 : Shape := ⟨3, ![8, 128, 256]⟩
abbrev S128x256 : Shape := ⟨2, ![128, 256]⟩
abbrev S1x128x256 : Shape := ⟨3, ![1, 128, 256]⟩
abbrev S8x128 : Shape := ⟨2, ![8, 128]⟩
abbrev S8x128x1 : Shape := ⟨3, ![8, 128, 1]⟩
abbrev S1x2x128x512 : Shape := ⟨4, ![1, 2, 128, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x16x64, .bf16⟩
  | .hbm, ⟨3, _⟩ => ⟨S2x128x16x64, .bf16⟩
  | .hbm, ⟨4, _⟩ => ⟨S256x512, .bf16⟩
  | .hbm, ⟨5, _⟩ => ⟨S16x2x128x64, .bf16⟩
  | .hbm, ⟨6, _⟩ => ⟨S16x2x128x64, .bf16⟩
  | .hbm, ⟨7, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S16x2x128x64, .bf16⟩
  | .local _ .vmem, ⟨3, _⟩ => ⟨S16x2x128x64, .bf16⟩
  | .local _ .vmem, ⟨4, _⟩ => ⟨S256x512, .bf16⟩
  | .local _ .vmem, ⟨5, _⟩ => ⟨S2x128x512, .f32⟩
  | .local _ .vmem, ⟨6, _⟩ => ⟨S2x2x4x2x128x64, .bf16⟩
  | .local _ .vmem, ⟨7, _⟩ => ⟨S4x2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_12 : BitVec 32 := 1#32
  let v15 : BitVec 32 := Scalar.muli v9 c1_i32_12
  let v16 : BitVec 32 := Scalar.addi c0_i32_13 v15
  v16.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_14 : BitVec 32 := 0#32
  let v17 : BitVec 1 := Scalar.cmpi .eq v2 c0_i32_14
  let v18 : BitVec 32 := Scalar.extui v17
  let c0_i32_15 : BitVec 32 := 0#32
  let v19 : BitVec 1 := Scalar.cmpi .ne v18 c0_i32_15
  v19

def k0_dev4 : Nat :=
  let c0_i32_215 : BitVec 32 := 0#32
  let c2_i32_213 : BitVec 32 := 2#32
  let c1_i32_214 : BitVec 32 := 1#32
  let v191 : BitVec 32 := Scalar.muli c2_i32_213 c1_i32_214
  let v192 : BitVec 32 := Scalar.addi c0_i32_215 v191
  v192.toNat
def k0_dev5 : Nat :=
  let c0_i32_230 : BitVec 32 := 0#32
  let c2_i32_228 : BitVec 32 := 2#32
  let c1_i32_229 : BitVec 32 := 1#32
  let v200 : BitVec 32 := Scalar.muli c2_i32_228 c1_i32_229
  let v201 : BitVec 32 := Scalar.addi c0_i32_230 v200
  v201.toNat
def k0_dev6 : Nat :=
  let c0_i32_246 : BitVec 32 := 0#32
  let c3_i32_244 : BitVec 32 := 3#32
  let c1_i32_245 : BitVec 32 := 1#32
  let v209 : BitVec 32 := Scalar.muli c3_i32_244 c1_i32_245
  let v210 : BitVec 32 := Scalar.addi c0_i32_246 v209
  v210.toNat
def k0_dev7 : Nat :=
  let c0_i32_261 : BitVec 32 := 0#32
  let c3_i32_259 : BitVec 32 := 3#32
  let c1_i32_260 : BitVec 32 := 1#32
  let v218 : BitVec 32 := Scalar.muli c3_i32_259 c1_i32_260
  let v219 : BitVec 32 := Scalar.addi c0_i32_261 v218
  v219.toNat
def k0_dev8 : Nat :=
  let c0_i32_277 : BitVec 32 := 0#32
  let c1_i32_275 : BitVec 32 := 1#32
  let c1_i32_276 : BitVec 32 := 1#32
  let v227 : BitVec 32 := Scalar.muli c1_i32_275 c1_i32_276
  let v228 : BitVec 32 := Scalar.addi c0_i32_277 v227
  v228.toNat
def k0_dev9 : Nat :=
  let c0_i32_292 : BitVec 32 := 0#32
  let c1_i32_290 : BitVec 32 := 1#32
  let c1_i32_291 : BitVec 32 := 1#32
  let v236 : BitVec 32 := Scalar.muli c1_i32_290 c1_i32_291
  let v237 : BitVec 32 := Scalar.addi c0_i32_292 v236
  v237.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v20 : BitVec 1 := Scalar.cmpi .eq v2 c1_i32_16
  let v21 : BitVec 32 := Scalar.extui v20
  let c0_i32_17 : BitVec 32 := 0#32
  let v22 : BitVec 1 := Scalar.cmpi .ne v21 c0_i32_17
  v22

def k0_dev10 : Nat :=
  let c0_i32_214 : BitVec 32 := 0#32
  let c3_i32_212 : BitVec 32 := 3#32
  let c1_i32_213 : BitVec 32 := 1#32
  let v191 : BitVec 32 := Scalar.muli c3_i32_212 c1_i32_213
  let v192 : BitVec 32 := Scalar.addi c0_i32_214 v191
  v192.toNat
def k0_dev11 : Nat :=
  let c0_i32_229 : BitVec 32 := 0#32
  let c3_i32_227 : BitVec 32 := 3#32
  let c1_i32_228 : BitVec 32 := 1#32
  let v200 : BitVec 32 := Scalar.muli c3_i32_227 c1_i32_228
  let v201 : BitVec 32 := Scalar.addi c0_i32_229 v200
  v201.toNat
def k0_dev12 : Nat :=
  let c0_i32_245 : BitVec 32 := 0#32
  let c0_i32_243 : BitVec 32 := 0#32
  let c1_i32_244 : BitVec 32 := 1#32
  let v209 : BitVec 32 := Scalar.muli c0_i32_243 c1_i32_244
  let v210 : BitVec 32 := Scalar.addi c0_i32_245 v209
  v210.toNat
def k0_dev13 : Nat :=
  let c0_i32_261 : BitVec 32 := 0#32
  let c0_i32_259 : BitVec 32 := 0#32
  let c1_i32_260 : BitVec 32 := 1#32
  let v218 : BitVec 32 := Scalar.muli c0_i32_259 c1_i32_260
  let v219 : BitVec 32 := Scalar.addi c0_i32_261 v218
  v219.toNat
def k0_dev14 : Nat :=
  let c0_i32_277 : BitVec 32 := 0#32
  let c2_i32_275 : BitVec 32 := 2#32
  let c1_i32_276 : BitVec 32 := 1#32
  let v227 : BitVec 32 := Scalar.muli c2_i32_275 c1_i32_276
  let v228 : BitVec 32 := Scalar.addi c0_i32_277 v227
  v228.toNat
def k0_dev15 : Nat :=
  let c0_i32_291 : BitVec 32 := 0#32
  let c2_i32_289 : BitVec 32 := 2#32
  let c1_i32_290 : BitVec 32 := 1#32
  let v236 : BitVec 32 := Scalar.muli c2_i32_289 c1_i32_290
  let v237 : BitVec 32 := Scalar.addi c0_i32_291 v236
  v237.toNat
def k0_dev16 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_68 : BitVec 32 := 1#32
  let v90 : BitVec 32 := Scalar.muli v9 c1_i32_68
  let v91 : BitVec 32 := Scalar.addi c0_i32_69 v90
  v91.toNat
def k0_dev17 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_80 : BitVec 32 := 1#32
  let v100 : BitVec 32 := Scalar.muli v7 c1_i32_80
  let v101 : BitVec 32 := Scalar.addi c0_i32_81 v100
  v101.toNat
def k0_dev18 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_92 : BitVec 32 := 1#32
  let v110 : BitVec 32 := Scalar.muli v5 c1_i32_92
  let v111 : BitVec 32 := Scalar.addi c0_i32_93 v110
  v111.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x1024 : Shape := ⟨2, ![512, 1024]⟩
abbrev S2x512x16x64 : Shape := ⟨4, ![2, 512, 16, 64]⟩
abbrev S1024x512 : Shape := ⟨2, ![1024, 512]⟩
abbrev S2x128x1024 : Shape := ⟨3, ![2, 128, 1024]⟩
abbrev S2x128x16x64 : Shape := ⟨4, ![2, 128, 16, 64]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S_ : Shape := ⟨0, ![]⟩
abbrev S2x16x128x512 : Shape := ⟨4, ![2, 16, 128, 512]⟩
abbrev S1x1x128x512 : Shape := ⟨4, ![1, 1, 128, 512]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 62
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x512x16x64, .bf16⟩
  | .hbm, ⟨3, _⟩ => ⟨S2x512x16x64, .bf16⟩
  | .hbm, ⟨4, _⟩ => ⟨S1024x512, .bf16⟩
  | .hbm, ⟨5, _⟩ => ⟨S2x128x1024, .f32⟩
  | .hbm, ⟨6, _⟩ => ⟨S2x128x1024, .bf16⟩
  | .hbm, ⟨7, _⟩ => ⟨S2x128x16x64, .bf16⟩
  | .hbm, ⟨8, _⟩ => ⟨S128, .i32⟩
  | .hbm, ⟨9, _⟩ => ⟨S128x1, .i32⟩
  | .hbm, ⟨10, _⟩ => ⟨S512, .i32⟩
  | .hbm, ⟨11, _⟩ => ⟨S1x512, .i32⟩
  | .hbm, ⟨12, _⟩ => ⟨S128x512, .i32⟩
  | .hbm, ⟨13, _⟩ => ⟨S128x512, .i32⟩
  | .hbm, ⟨14, _⟩ => ⟨S128x512, .i32⟩
  | .hbm, ⟨15, _⟩ => ⟨S128x512, .i32⟩
  | .hbm, ⟨16, _⟩ => ⟨S_, .i32⟩
  | .hbm, ⟨17, _⟩ => ⟨S128x512, .i32⟩
  | .hbm, ⟨18, _⟩ => ⟨S128x512, .i1⟩
  | .hbm, ⟨19, _⟩ => ⟨S2x16x128x512, .f32⟩
  | .hbm, ⟨20, _⟩ => ⟨S2x16x128x512, .bf16⟩
  | .hbm, ⟨21, _⟩ => ⟨S2x16x128x512, .f32⟩
  | .hbm, ⟨22, _⟩ => ⟨S_, .f32⟩
  | .hbm, ⟨23, _⟩ => ⟨S2x16x128x512, .f32⟩
  | .hbm, ⟨24, _⟩ => ⟨S2x16x128x512, .f32⟩
  | .hbm, ⟨25, _⟩ => ⟨S1x1x128x512, .i1⟩
  | .hbm, ⟨26, _⟩ => ⟨S_, .f32⟩
  | .hbm, ⟨27, _⟩ => ⟨S_, .f32⟩
  | .hbm, ⟨28, _⟩ => ⟨S2x16x128x512, .i1⟩
  | .hbm, ⟨29, _⟩ => ⟨S2x16x128x512, .f32⟩
  | .hbm, ⟨30, _⟩ => ⟨S2x16x128x512, .f32⟩
  | .hbm, ⟨31, _⟩ => ⟨S_, .f32⟩
  | .hbm, ⟨32, _⟩ => ⟨S2x16x128, .f32⟩
  | .hbm, ⟨33, _⟩ => ⟨S2x16x128x1, .f32⟩
  | .hbm, ⟨34, _⟩ => ⟨S2x16x128x512, .f32⟩
  | .hbm, ⟨35, _⟩ => ⟨S2x16x128x512, .f32⟩
  | .hbm, ⟨36, _⟩ => ⟨S2x16x128x512, .f32⟩
  | .hbm, ⟨37, _⟩ => ⟨S_, .i1⟩
  | .hbm, ⟨38, _⟩ => ⟨S128, .i1⟩
  | .hbm, ⟨39, _⟩ => ⟨S1x1x128x1, .i1⟩
  | .hbm, ⟨40, _⟩ => ⟨S_, .f32⟩
  | .hbm, ⟨41, _⟩ => ⟨S2x16x128, .f32⟩
  | .hbm, ⟨42, _⟩ => ⟨S2x16x128x1, .f32⟩
  | .hbm, ⟨43, _⟩ => ⟨S_, .f32⟩
  | .hbm, ⟨44, _⟩ => ⟨S_, .f32⟩
  | .hbm, ⟨45, _⟩ => ⟨S2x16x128x1, .i1⟩
  | .hbm, ⟨46, _⟩ => ⟨S2x16x128x1, .f32⟩
  | .hbm, ⟨47, _⟩ => ⟨S2x16x128x1, .f32⟩
  | .hbm, ⟨48, _⟩ => ⟨S2x16x128x512, .f32⟩
  | .hbm, ⟨49, _⟩ => ⟨S2x16x128x512, .f32⟩
  | .hbm, ⟨50, _⟩ => ⟨S1x1x128x1, .i1⟩
  | .hbm, ⟨51, _⟩ => ⟨S_, .f32⟩
  | .hbm, ⟨52, _⟩ => ⟨S_, .f32⟩
  | .hbm, ⟨53, _⟩ => ⟨S2x16x128x512, .i1⟩
  | .hbm, ⟨54, _⟩ => ⟨S2x16x128x512, .f32⟩
  | .hbm, ⟨55, _⟩ => ⟨S2x16x128x512, .f32⟩
  | .hbm, ⟨56, _⟩ => ⟨S2x512x16x64, .f32⟩
  | .hbm, ⟨57, _⟩ => ⟨S2x16x64x128, .f32⟩
  | .hbm, ⟨58, _⟩ => ⟨S2x128x16x64, .f32⟩
  | .hbm, ⟨59, _⟩ => ⟨S2x128x1024, .f32⟩
  | .hbm, ⟨60, _⟩ => ⟨S1024x512, .f32⟩
  | .hbm, ⟨61, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.KI.Common.lean ====
/- The exchange of `cc0_body`: four devices, the barrier handshake, the two key/value chunks handed out by devices 0 and 1,
   the partial results handed to every peer. Cells, views, contents, the schedule of duties, the levels. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Pipeline.Value
public import Idealize.ShloMosaic.Lib.Ring.Trips
public import Idealize.ShloMosaic.Lib.Tactic

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The exchange's ghost state: its cells, its duties named by directions. -/
abbrev UT : Type := URounds (GSem nD τ sig) (Fin 3)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

variable (m : (ℓ : Loc nD τ sig) → Buf (Elt F) ℓ)

/-! ## Directions: 0 right, 1 left, 2 across -/

set_option backward.proofsInPublic true in
/-- The peer of `c` in direction `k`. -/
def toD (k : Fin 3) (c : Dev nD) : Dev nD := ⟨(c.val + (match k with | 0 => 1 | 1 => 3 | 2 => 2)) % 4, Nat.mod_lt _ (by decide)⟩
/-- The opposite direction. -/
def opp : Fin 3 → Fin 3 := fun | 0 => 1 | 1 => 0 | 2 => 2
/-- The device whose peer in direction `k` is `c`. -/
abbrev fr (k : Fin 3) (c : Dev nD) : Dev nD := toD (opp k) c

theorem to_fr (k : Fin 3) (c : Dev nD) : toD k (fr k c) = c := by revert k c; decide
theorem fr_to (k : Fin 3) (c : Dev nD) : fr k (toD k c) = c := by revert k c; decide

/-- The device holding chunk `ch`. -/
def chD : Fin 2 → Dev nD := fun | 0 => 0 | 1 => 1

/-! ## Views -/

abbrev kM : Memref sig .tc .vmem S16x2x128x64 .bf16 := Memref.whole cc0_stg2_0
abbrev vM : Memref sig .tc .vmem S16x2x128x64 .bf16 := Memref.whole cc0_stg3_0
abbrev sM : Memref sig .tc .vmem S2x2x4x2x128x64 .bf16 := Memref.whole cc0_scratch0
abbrev pM : Memref sig .tc .vmem S4x2x128x512 .bf16 := Memref.whole cc0_scratch1

/-- The rows of head group `t` in a staged key or value array. -/
def gR : Fin 4 → Rect S16x2x128x64 := fun
  | 0 => Rect.unit (s := S16x2x128x64) ![0, 0, 0, 0] S4x2x128x64.size inb_S16x2x128x64_S4x2x128x64_0_0_0_0
  | 1 => Rect.unit (s := S16x2x128x64) ![4, 0, 0, 0] S4x2x128x64.size inb_S16x2x128x64_S4x2x128x64_4_0_0_0
  | 2 => Rect.unit (s := S16x2x128x64) ![8, 0, 0, 0] S4x2x128x64.size inb_S16x2x128x64_S4x2x128x64_8_0_0_0
  | 3 => Rect.unit (s := S16x2x128x64) ![12, 0, 0, 0] S4x2x128x64.size inb_S16x2x128x64_S4x2x128x64_12_0_0_0

/-- Head group `t` of the staged keys (`kv = 0`) or values (`kv = 1`). -/
def gM : Fin 2 → Fin 4 → Memref sig .tc .vmem S4x2x128x64 .bf16 := fun
  | 0, 0 => kM.slice (Rect.unit (s := S16x2x128x64) ![0, 0, 0, 0] S4x2x128x64.size inb_S16x2x128x64_S4x2x128x64_0_0_0_0) (fun _ => rfl)
  | 0, 1 => kM.slice (Rect.unit (s := S16x2x128x64) ![4, 0, 0, 0] S4x2x128x64.size inb_S16x2x128x64_S4x2x128x64_4_0_0_0) (fun _ => rfl)
  | 0, 2 => kM.slice (Rect.unit (s := S16x2x128x64) ![8, 0, 0, 0] S4x2x128x64.size inb_S16x2x128x64_S4x2x128x64_8_0_0_0) (fun _ => rfl)
  | 0, 3 => kM.slice (Rect.unit (s := S16x2x128x64) ![12, 0, 0, 0] S4x2x128x64.size inb_S16x2x128x64_S4x2x128x64_12_0_0_0) (fun _ => rfl)
  | 1, 0 => vM.slice (Rect.unit (s := S16x2x128x64) ![0, 0, 0, 0] S4x2x128x64.size inb_S16x2x128x64_S4x2x128x64_0_0_0_0) (fun _ => rfl)
  | 1, 1 => vM.slice (Rect.unit (s := S16x2x128x64) ![4, 0, 0, 0] S4x2x128x64.size inb_S16x2x128x64_S4x2x128x64_4_0_0_0) (fun _ => rfl)
  | 1, 2 => vM.slice (Rect.unit (s := S16x2x128x64) ![8, 0, 0, 0] S4x2x128x64.size inb_S16x2x128x64_S4x2x128x64_8_0_0_0) (fun _ => rfl)
  | 1, 3 => vM.slice (Rect.unit (s := S16x2x128x64) ![12, 0, 0, 0] S4x2x128x64.size inb_S16x2x128x64_S4x2x128x64_12_0_0_0) (fun _ => rfl)

/-- The place of chunk `ch`, keys or values, in the collected array. -/
def cM : Fin 2 → Fin 2 → Memref sig .tc .vmem S4x2x128x64 .bf16 := fun
  | 0, 0 => (sM.slice (Rect.unit (s := S2x2x4x2x128x64) ![0, 0, 0, 0, 0, 0] S1x1x4x2x128x64.size inb_S2x2x4x2x128x64_S1x1x4x2x128x64_0_0_0_0_0_0) (fun _ => rfl)).squeeze S4x2x128x64 squeezes_S1x1x4x2x128x64_S4x2x128x64
  | 0, 1 => (sM.slice (Rect.unit (s := S2x2x4x2x128x64) ![0, 1, 0, 0, 0, 0] S1x1x4x2x128x64.size inb_S2x2x4x2x128x64_S1x1x4x2x128x64_0_1_0_0_0_0) (fun _ => rfl)).squeeze S4x2x128x64 squeezes_S1x1x4x2x128x64_S4x2x128x64
  | 1, 0 => (sM.slice (Rect.unit (s := S2x2x4x2x128x64) ![1, 0, 0, 0, 0, 0] S1x1x4x2x128x64.size inb_S2x2x4x2x128x64_S1x1x4x2x128x64_1_0_0_0_0_0) (fun _ => rfl)).squeeze S4x2x128x64 squeezes_S1x1x4x2x128x64_S4x2x128x64
  | 1, 1 => (sM.slice (Rect.unit (s := S2x2x4x2x128x64) ![1, 1, 0, 0, 0, 0] S1x1x4x2x128x64.size inb_S2x2x4x2x128x64_S1x1x4x2x128x64_1_1_0_0_0_0) (fun _ => rfl)).squeeze S4x2x128x64 squeezes_S1x1x4x2x128x64_S4x2x128x64

/-- Slot `k` of the partial results. -/
def oM : Fin 4 → Memref sig .tc .vmem S2x128x512 .bf16 := fun
  | 0 => (pM.slice (Rect.unit (s := S4x2x128x512) ![0, 0, 0, 0] S1x2x128x512.size inb_S4x2x128x512_S1x2x128x512_0_0_0_0) (fun _ => rfl)).squeeze S2x128x512 squeezes_S1x2x128x512_S2x128x512
  | 1 => (pM.slice (Rect.unit (s := S4x2x128x512) ![1, 0, 0, 0] S1x2x128x512.size inb_S4x2x128x512_S1x2x128x512_1_0_0_0) (fun _ => rfl)).squeeze S2x128x512 squeezes_S1x2x128x512_S2x128x512
  | 2 => (pM.slice (Rect.unit (s := S4x2x128x512) ![2, 0, 0, 0] S1x2x128x512.size inb_S4x2x128x512_S1x2x128x512_2_0_0_0) (fun _ => rfl)).squeeze S2x128x512 squeezes_S1x2x128x512_S2x128x512
  | 3 => (pM.slice (Rect.unit (s := S4x2x128x512) ![3, 0, 0, 0] S1x2x128x512.size inb_S4x2x128x512_S1x2x128x512_3_0_0_0) (fun _ => rfl)).squeeze S2x128x512 squeezes_S1x2x128x512_S2x128x512

/-! ## Contents -/

/-- The head group `t` of an array of sixteen heads. -/
def grp {α : Type} (t : Fin 4) (X : S16x2x128x64.Idx → α) : S4x2x128x64.Idx → α :=
  match t with
  | 0 => fun i => X ((Rect.unit (s := S16x2x128x64) ![0, 0, 0, 0] S4x2x128x64.size inb_S16x2x128x64_S4x2x128x64_0_0_0_0).emb i)
  | 1 => fun i => X ((Rect.unit (s := S16x2x128x64) ![4, 0, 0, 0] S4x2x128x64.size inb_S16x2x128x64_S4x2x128x64_4_0_0_0).emb i)
  | 2 => fun i => X ((Rect.unit (s := S16x2x128x64) ![8, 0, 0, 0] S4x2x128x64.size inb_S16x2x128x64_S4x2x128x64_8_0_0_0).emb i)
  | 3 => fun i => X ((Rect.unit (s := S16x2x128x64) ![12, 0, 0, 0] S4x2x128x64.size inb_S16x2x128x64_S4x2x128x64_12_0_0_0).emb i)

/-- The staged inputs of device `c`. -/
def xS (c : Dev nD) : S2x128x512.Idx → Elt F .bf16 := iblk m c 0 t0_0
def wqS (c : Dev nD) : S512x256.Idx → Elt F .bf16 := iblk m c 1 t0_0
def kvS (kv : Fin 2) (c : Dev nD) : S16x2x128x64.Idx → Elt F .bf16 := match kv with | 0 => iblk m c 2 t0_0 | 1 => iblk m c 3 t0_0
def woS (c : Dev nD) : S256x512.Idx → Elt F .bf16 := iblk m c 4 t0_0

/-- Head group `t` of the keys or values device `c` holds. -/
def src (kv : Fin 2) (t : Dev nD) (c : Dev nD) : S4x2x128x64.Idx → Elt F .bf16 := grp t (kvS m kv c)

/-- The collected piece as the loads of `cc0_body` read it. -/
def pc (ch kv : Fin 2) (c : Dev nD) : S1x1x4x2x128x64.Idx → Elt F .bf16 :=
  shapeCast S1x1x4x2x128x64 (src m kv c (chD ch)) shapeCasts_S4x2x128x64_S1x1x4x2x128x64

/-- What device `c` contributes to the sum, as `cc0_body` stores it. -/
def part (c : Dev nD) : S1x2x128x512.Idx → Elt F .bf16 :=
  k0_pay9 (k0_pay6 (k0_pay5 (xS m c)) (wqS m c)) (k0_pay7 (pc m 0 0 c) (pc m 1 0 c)) (k0_pay8 (pc m 0 1 c)) (pc m 1 1 c) (woS m c)

/-- The same through the slot's view. -/
def prt (c : Dev nD) : S2x128x512.Idx → Elt F .bf16 := shapeCast S2x128x512 (part m c) shapeCasts_S1x2x128x512_S2x128x512

/-- The result every device computes from the four parts it holds. -/
def outS (c : Dev nD) : S2x128x512.Idx → Elt F .f32 := k0_pay10 (part m c) (part m (fr 0 c)) (part m (fr 1 c)) (part m (fr 2 c))

/-! ## Semaphores and cells -/

abbrev barS : Sem sig := (SemArray.scalar (sig.barrier 0 rfl) : Sems sig S_).sem

/-- The kernel's own semaphores: four landings of keys and values, eight sends of them, three sends and three landings of parts. -/
def ow (j : Fin 18) : DmaSem sig := ⟨6 + j.val, by have := j.isLt; show 6 + j.val < 24; omega⟩
def jr (ch kv : Fin 2) : Fin 18 := ⟨2 * ch.val + kv.val, by omega⟩
def js (i : Fin 3) (kv : Fin 2) : Fin 18 := ⟨4 + (2 * i.val + kv.val), by omega⟩
def jo (k : Fin 3) : Fin 18 := ⟨12 + k.val, by omega⟩
def ji (k : Fin 3) : Fin 18 := ⟨15 + k.val, by omega⟩

abbrev bc (c : Dev nD) : GSem nD τ sig := ((c : Thread nD τ), .reg barS)
abbrev oc (c : Dev nD) (j : Fin 18) : GSem nD τ sig := ((c : Thread nD τ), .dma (ow j))

/-- The amounts one copy is worth: a head group, and a partial result. -/
abbrev N₁ : ℕ := (cM 0 0).view.dmaCredit
abbrev N₂ : ℕ := (oM 0).view.dmaCredit
theorem N₁_pos : 0 < N₁ := View.dmaCredit_pos _ (by decide)
theorem N₂_pos : 0 < N₂ := View.dmaCredit_pos _ (by decide)

def amt (j : Fin 18) : ℕ := if j.val < 12 then N₁ else N₂

/-! ## The duties -/

/-- Handed to `c` at its barrier by the peer `p`: the places of `p` that `c`'s chunk of keys and values goes to. -/
def kvPay (c p : Dev nD) : sProp 𝕄 :=
  if h : c.val < 2 then
    iprop(((∃ v, owns (p : Thread nD τ) (cM ⟨c.val, h⟩ 0) fullShare v) ∗ reached ER (oc p (jr ⟨c.val, h⟩ 0)) 0)
      ∗ ((∃ v, owns (p : Thread nD τ) (cM ⟨c.val, h⟩ 1) fullShare v) ∗ reached ER (oc p (jr ⟨c.val, h⟩ 1)) 0))
  else iprop(emp)

/-- Handed to `c` at its barrier by the peer in direction `k`: the slot there that `c`'s part goes to, and `kvPay`. -/
def barPay (c : Dev nD) (k : Fin 3) : sProp 𝕄 :=
  iprop(((∃ v, owns (toD k c : Thread nD τ) (oM k.succ) fullShare v) ∗ reached ER (oc (toD k c) (ji k)) 0) ∗ kvPay c (toD k c))

/-- What a copy leaves at its cell. -/
def owPay (c : Dev nD) : Fin 18 → sProp 𝕄 := fun
  | 0 => owns (c : Thread nD τ) (cM 0 0) fullShare (src m 0 c 0)
  | 1 => owns (c : Thread nD τ) (cM 0 1) fullShare (src m 1 c 0)
  | 2 => owns (c : Thread nD τ) (cM 1 0) fullShare (src m 0 c 1)
  | 3 => owns (c : Thread nD τ) (cM 1 1) fullShare (src m 1 c 1)
  | 4 => owns (c : Thread nD τ) (gM 0 (toD 2 c)) fullShare (src m 0 (toD 2 c) c)
  | 5 => owns (c : Thread nD τ) (gM 1 (toD 2 c)) fullShare (src m 1 (toD 2 c) c)
  | 6 => owns (c : Thread nD τ) (gM 0 (toD 1 c)) fullShare (src m 0 (toD 1 c) c)
  | 7 => owns (c : Thread nD τ) (gM 1 (toD 1 c)) fullShare (src m 1 (toD 1 c) c)
  | 8 => owns (c : Thread nD τ) (gM 0 (toD 0 c)) fullShare (src m 0 (toD 0 c) c)
  | 9 => owns (c : Thread nD τ) (gM 1 (toD 0 c)) fullShare (src m 1 (toD 0 c) c)
  | 10 => iprop(emp)
  | 11 => iprop(emp)
  | 12 => owns (c : Thread nD τ) (oM 0) (Ring.shares3 fullShare.right 0) (prt m c)
  | 13 => owns (c : Thread nD τ) (oM 0) (Ring.shares3 fullShare.right 1) (prt m c)
  | 14 => owns (c : Thread nD τ) (oM 0) (Ring.shares3 fullShare.right 2) (prt m c)
  | 15 => owns (c : Thread nD τ) (oM 1) fullShare (prt m (fr 0 c))
  | 16 => owns (c : Thread nD τ) (oM 2) fullShare (prt m (fr 1 c))
  | _ => owns (c : Thread nD τ) (oM 3) fullShare (prt m (fr 2 c))

theorem owPay_jr (c : Dev nD) (ch kv : Fin 2) : owPay m c (jr ch kv) = owns (c : Thread nD τ) (cM ch kv) fullShare (src m kv c (chD ch)) := by
  fin_cases ch <;> fin_cases kv <;> rfl
theorem owPay_js (c : Dev nD) (i : Fin 3) (kv : Fin 2) :
    owPay m c (js i kv) = owns (c : Thread nD τ) (gM kv (toD (Fin.rev i) c)) fullShare (src m kv (toD (Fin.rev i) c) c) := by
  fin_cases i <;> fin_cases kv <;> rfl
theorem owPay_jo (c : Dev nD) (k : Fin 3) : owPay m c (jo k) = owns (c : Thread nD τ) (oM 0) (Ring.shares3 fullShare.right k) (prt m c) := by
  fin_cases k <;> rfl
theorem owPay_ji (c : Dev nD) (k : Fin 3) : owPay m c (ji k) = owns (c : Thread nD τ) (oM k.succ) fullShare (prt m (fr k c)) := by
  fin_cases k <;> rfl

instance kvPay_storable (c p : Dev nD) : BI.Storable (upEmb : UEmb _ 𝕄) (kvPay (F := F) c p) := by
  unfold kvPay; (repeat' split) <;> infer_instance
instance barPay_storable (c : Dev nD) (k : Fin 3) : BI.Storable (upEmb : UEmb _ 𝕄) (barPay (F := F) c k) := by
  unfold barPay; infer_instance
instance owPay_storable (c : Dev nD) (j : Fin 18) : BI.Storable (upEmb : UEmb _ 𝕄) (owPay m c j) := by
  unfold owPay; split <;> infer_instance

/-- Round 0 only: three duties on a barrier cell, one on each of the kernel's own cells. -/
def sch : Rounds.Schedule (GSem nD τ sig) (Fin 3) 𝕄 where
  duties g r := if r = 0 then (match g.2 with | .reg _ => Finset.univ | .dma s => {0}) else ∅
  unitless _ := False
  amount g _ _ := match g.2 with | .reg _ => 1 | .dma s => if s.val < 18 then N₁ else N₂
  payload g _ d := match g.2 with
    | .reg _ => barPay g.1.1 d
    | .dma s => if h : s.val - 6 < 18 then owPay m g.1.1 ⟨s.val - 6, h⟩ else iprop(emp)
  amount_pos g _ _ _ := by
    cases g.2 with
    | reg _ => exact Nat.one_pos
    | dma s => dsimp only; split; exacts [N₁_pos, N₂_pos]

instance sch_storable (g : GSem nD τ sig) (r : ℕ) (d : Fin 3) : BI.Storable (upEmb : UEmb _ 𝕄) ((sch m).payload g r d) := by
  unfold sch; dsimp only; (repeat' split) <;> infer_instance

theorem duties_bc (c : Dev nD) : (sch m).duties (bc c) 0 = Finset.univ := rfl
theorem duties_oc (c : Dev nD) (j : Fin 18) : (sch m).duties (oc c j) 0 = {0} := rfl
theorem duties_later (g : GSem nD τ sig) : ∀ r, 1 ≤ r → (sch m).duties g r = ∅ := fun r hr => if_neg (by omega)
theorem amount_bc (c : Dev nD) (d : Fin 3) : (sch m).amount (bc c) 0 d = 1 := rfl
theorem amount_oc (c : Dev nD) (j : Fin 18) (d : Fin 3) : (sch m).amount (oc c j) 0 d = amt j := by
  show (if 6 + j.val < 18 then N₁ else N₂) = (if j.val < 12 then N₁ else N₂)
  by_cases h : j.val < 12
  · rw [if_pos h, if_pos (by omega)]
  · rw [if_neg h, if_neg (by omega)]
theorem payload_bc (c : Dev nD) (d : Fin 3) : (sch m).payload (bc c) 0 d = barPay c d := rfl
theorem payload_oc (c : Dev nD) (j : Fin 18) (d : Fin 3) : (sch m).payload (oc c j) 0 d = owPay m c j := by
  show (if h : 6 + j.val - 6 < 18 then owPay m c ⟨6 + j.val - 6, h⟩ else iprop(emp)) = _
  rw [dif_pos (by omega)]
  exact congrArg _ (Fin.ext (by simp only [Nat.add_sub_cancel_left]))
theorem expect_bc (c : Dev nD) : (sch m).expect (bc c) 0 = 3 := by
  unfold Schedule.expect Schedule.amountOf; rw [duties_bc, Fin.sum_univ_three]; rfl
theorem expect_oc (c : Dev nD) (j : Fin 18) : (sch m).expect (oc c j) 0 = amt j := by
  unfold Schedule.expect Schedule.amountOf; rw [duties_oc, Finset.sum_singleton, amount_oc]
theorem rest_bc (c : Dev nD) : bigSep ((sch m).duties (bc c) 0 \ ∅) (fun d => (sch m).payload (bc c) 0 d)
    = iprop(barPay c 0 ∗ barPay c 1 ∗ barPay c 2) := by
  rw [Finset.sdiff_empty, duties_bc, bigSep_univ_eq_bigSepL [0, 1, 2] (by decide) (by decide), bigSepL_cons_cons, bigSepL_cons_cons, bigSepL_singleton]
  rfl
theorem rest_oc (c : Dev nD) (j : Fin 18) : bigSep ((sch m).duties (oc c j) 0 \ ∅) (fun d => (sch m).payload (oc c j) 0 d) = owPay m c j := by
  rw [Finset.sdiff_empty, duties_oc, bigSep_singleton, payload_oc]

/-! ## What each device owes at launch; the levels -/

/-- The landing of a part at each peer, in the order the sends pay them off (last first). -/
def orO (c : Dev nD) : CellTallies nD τ sig Unit :=
  tallyAt (oc (toD 1 c) (ji 1)) () N₂ + tallyAt (oc (toD 0 c) (ji 0)) () N₂ + tallyAt (oc (toD 2 c) (ji 2)) () N₂

/-- The landing of one piece of chunk `ch`, the `n`-th from the end. -/
def kT (ch : Fin 2) (c : Dev nD) : ℕ → CellTallies nD τ sig Unit
  | 0 => tallyAt (oc (toD 0 c) (jr ch 1)) () N₁
  | 1 => tallyAt (oc (toD 0 c) (jr ch 0)) () N₁
  | 2 => tallyAt (oc (toD 1 c) (jr ch 1)) () N₁
  | 3 => tallyAt (oc (toD 1 c) (jr ch 0)) () N₁
  | 4 => tallyAt (oc (toD 2 c) (jr ch 1)) () N₁
  | _ => tallyAt (oc (toD 2 c) (jr ch 0)) () N₁

/-- What is still owed with `n` pieces of chunk `ch` to send. -/
def kO (ch : Fin 2) (c : Dev nD) : ℕ → CellTallies nD τ sig Unit
  | 0 => orO c
  | n + 1 => kO ch c n + kT ch c n

/-- Owed once the barrier is passed. -/
def mO (c : Dev nD) : CellTallies nD τ sig Unit := if h : c.val < 2 then kO ⟨c.val, h⟩ c 6 else orO c

def O₀ (c : Dev nD) : CellTallies nD τ sig Unit :=
  mO c + tallyAt (bc (toD 2 c)) () 1 + tallyAt (bc (toD 0 c)) () 1 + tallyAt (bc (toD 1 c)) () 1

def L (g : GSem nD τ sig) : Finset Unit := if g.1.2 = .tc then {()} else ∅
/-- The barrier 1, the landings of keys and values 2, the landings of parts 3, everything else 0. -/
def lv (g : GSem nD τ sig) (_ : Unit) : ℕ := match g.2 with
  | .reg _ => 1
  | .dma s => if 6 ≤ s.val ∧ s.val < 10 then 2 else if 21 ≤ s.val then 3 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed is above level `n`. -/
def Above (n : ℕ) (O : CellTallies nD τ sig Unit) : Prop := ∀ g u, 0 < O g u → g.1.2 = .tc ∧ n < lv g u

theorem Above.add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  exacts [h g u hg, h' g u hg]
theorem Above.tally {n : ℕ} (c : Dev nD) (sm : SemLoc sig) (k : ℕ) (h : n < lv (((0 : Dev nD) : Thread nD τ), sm) ()) :
    Above n (tallyAt ((c : Thread nD τ), sm) () k) := fun g u hg => by
  rw [tallyAt_apply] at hg
  split at hg
  · next h' => rw [h'.1]; exact ⟨rfl, h⟩
  · exact absurd hg (Nat.lt_irrefl 0)
theorem Above.mono {n n' : ℕ} {O : CellTallies nD τ sig Unit} (h : Above n O) (hn : n' ≤ n) : Above n' O := fun g u hg =>
  ⟨(h g u hg).1, lt_of_le_of_lt hn (h g u hg).2⟩

theorem orO_above (c : Dev nD) : Above 2 (orO c) :=
  ((Above.tally _ _ _ (by decide)).add (Above.tally _ _ _ (by decide))).add (Above.tally _ _ _ (by decide))
theorem kT_above (ch : Fin 2) (c : Dev nD) (n : ℕ) : Above 1 (kT ch c n) := by
  unfold kT; split <;> exact Above.tally _ _ _ (by revert ch; decide)
theorem kO_above (ch : Fin 2) (c : Dev nD) : ∀ n, Above 1 (kO ch c n)
  | 0 => (orO_above c).mono (by decide)
  | n + 1 => (kO_above ch c n).add (kT_above ch c n)
theorem mO_above (c : Dev nD) : Above 1 (mO c) := by
  unfold mO; split
  exacts [kO_above _ _ _, (orO_above c).mono (by decide)]
theorem O₀_above (c : Dev nD) : Above 0 (O₀ c) :=
  ((((mO_above c).mono (by decide)).add (Above.tally _ _ _ (by decide))).add (Above.tally _ _ _ (by decide))).add (Above.tally _ _ _ (by decide))

theorem mayWait {n : ℕ} {O : CellTallies nD τ sig Unit} (hO : Above n O) (c : Dev nD) (sm : SemLoc sig) (h : lv (((0 : Dev nD) : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact h)
    (fun g u hg => (hO g u hg).2)

end Cert.KernelIdeal.Talk
-- ==== Proof.KI.Steps.lean ====
/- The steps of the exchange: opening a cell, the copies of keys, values and parts, the waits, the loads and stores of a piece. -/
module

public import proofs.«01_k».proof.Proof.KI.Common

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- Device `c` owes `O`. -/
def owe (c : Dev nD) (O : CellTallies nD τ sig Unit) : sProp 𝕄 := iprop(∃ W, owes (c : Thread nD τ) O W)

/-- Every cell's invariant under the names `κ`, and round 0 of every barrier cell reached. -/
def recs (κ : GSem nD τ sig → ℕ) : sProp 𝕄 :=
  iprop((bigSep Finset.univ fun c : Dev nD => cellInv ER (sch m) (κ (bc c)) (bc c))
    ∗ (bigSep Finset.univ fun cj : Dev nD × Fin 18 => cellInv ER (sch m) (κ (oc cj.1 cj.2)) (oc cj.1 cj.2))
    ∗ bigSep Finset.univ fun c : Dev nD => reached ER (bc c) 0)

instance recs_persistent (κ : GSem nD τ sig → ℕ) : BI.Persistent (recs m κ) := by unfold recs; infer_instance

theorem recs_bc (κ : GSem nD τ sig → ℕ) (c : Dev nD) : recs m κ ⊢ cellInv ER (sch m) (κ (bc c)) (bc c) := by
  exact sep_elim_left.trans (bigSep_elim (Φ := fun c : Dev nD => cellInv ER (sch m) (κ (bc c)) (bc c)) (Finset.mem_univ c))
theorem recs_oc (κ : GSem nD τ sig → ℕ) (c : Dev nD) (j : Fin 18) : recs m κ ⊢ cellInv ER (sch m) (κ (oc c j)) (oc c j) := by
  exact sep_elim_right.trans (sep_elim_left.trans
    (bigSep_elim (Φ := fun cj : Dev nD × Fin 18 => cellInv ER (sch m) (κ (oc cj.1 cj.2)) (oc cj.1 cj.2)) (Finset.mem_univ (c, j))))
theorem recs_rd (κ : GSem nD τ sig → ℕ) (c : Dev nD) : recs m κ ⊢ reached ER (bc c) 0 := by
  exact sep_elim_right.trans (sep_elim_right.trans
    (bigSep_elim (Φ := fun c : Dev nD => (reached ER (bc c) 0 : sProp 𝕄)) (Finset.mem_univ c)))

/-- One of the kernel's own cells, not opened: the right to open it and its counter at zero. -/
def dorm (c : Dev nD) (j : Fin 18) : sProp 𝕄 := iprop(openTok ER (oc c j) ∗ semVal (oc c j) 0)

theorem open_ow (κ : GSem nD τ sig → ℕ) (c : Dev nD) (j : Fin 18) :
    iprop(recs m κ ∗ dorm c j) ⊢ (|={Set.univ}=> (atPos ER (oc c j) 0 ∅ 0 ∗ reached ER (oc c j) 0) : sProp 𝕄) := by
  unfold dorm
  iintro ⟨#HI, Ht, Hv⟩
  iapply (Rounds.cell_open ER (sch m) (g := oc c j) (Set.mem_univ (κ (oc c j))))
  isplitr; · iapply (recs_oc m κ c j) $$ HI
  isplitl [Ht] <;> iassumption

/-- What a wait on an own cell takes. -/
def wt (c : Dev nD) (j : Fin 18) : sProp 𝕄 := iprop(cred (tallyAt (oc c j) () (amt j)) ∗ atPos ER (oc c j) 0 ∅ 0)

theorem cM_amount (ch kv : Fin 2) (s : SemLoc sig) : (cM ch kv).view.dmaCredit = N₁ := by fin_cases ch <;> fin_cases kv <;> rfl
theorem oM_amount (k : Fin 4) : (oM k).view.dmaCredit = N₂ := by fin_cases k <;> rfl

theorem amt_jr (ch kv : Fin 2) : amt (jr ch kv) = N₁ := if_pos (by revert ch kv; decide)
theorem amt_js (i : Fin 3) (kv : Fin 2) : amt (js i kv) = N₁ := if_pos (by revert i kv; decide)
theorem amt_jo (k : Fin 3) : amt (jo k) = N₂ := if_neg (by revert k; decide)
theorem amt_ji (k : Fin 3) : amt (ji k) = N₂ := if_neg (by revert k; decide)

/-- A wait on one of the kernel's own cells: what its copy left, and the counter at zero, the cell closed. -/
theorem wait_ow (κ : GSem nD τ sig → ℕ) (c : Dev nD) (j : Fin 18) {s : DmaSem sig} (hs : s = ow j)
    {sp sp' : Space} {sh : Shape} {e : EltTy} {a : Memref sig .tc sp sh e} {b : Memref sig .tc sp' sh e}
    {h : a.view.WordExact} {h' : b.view.WordExact} (hN : b.view.dmaCredit = amt j)
    {n : ℕ} {O : CellTallies nD τ sig Unit} (hO : Above n O) (hl : lv (((0 : Dev nD) : Thread nD τ), .dma (ow j)) () ≤ n)
    {α : Type} {Q : α → sProp 𝕄} {k : PUnit → Prog (TpuEff nD τ sig (Elt F) Λ₀ .tc) α} :
    iprop(recs m κ ∗ levAts L lv ∗ wt c j ∗ owe c O)
      ⊢ iprop(((owe c O ∗ semVal (oc c j) 0 ∗ owPay m c j) -∗ wp frame (wpE (defs₀ (F := F)) 𝒱₀ c none) Set.univ (k ⟨⟩) Q)
        -∗ wp frame (wpE (defs₀ (F := F)) 𝒱₀ c none) Set.univ (.op (.waitDma2 s a b h h') k) Q) := by
  subst hs
  unfold wt owe
  iintro ⟨#HI, #Hlev, ⟨Hc, Hat⟩, ⟨%W, HO⟩⟩ Hk
  iapply (Rounds.wp_wait_rest_token 𝒱₀ ER (sch m) (c : Thread nD τ) none (κ := κ (oc c j))
      (wpE_waitDma2_eq 𝒱₀ (c : Thread nD τ) none Set.univ) (Set.mem_univ _) () (O := O) (W := W) (R := 0) (m := 0) (T := ∅)
      ((Nat.zero_add _).trans (hN.trans (expect_oc m c j).symm))) $$ [Hc HO Hat]
  · isplitr; · iapply (recs_oc m κ c j) $$ HI
    isplitl [Hc]; · rw [hN]; iexact Hc
    isplitl [HO]; · iexact HO
    isplitr; · iapply (mayWait hO c _ hl) $$ Hlev
    iexact Hat
  iintro ⟨HO, Hat, -, Hpay⟩
  imod (Rounds.cell_close ER (sch m) (Set.mem_univ (κ (oc c j))) id (R := 0 + 1) (duties_later m (oc c j))) $$ [Hat] with Hz
  · isplitr; · iapply (recs_oc m κ c j) $$ HI
    iexact Hat
  iapply Hk
  isplitl [HO]; · iexists _; iexact HO
  isplitl [Hz]; · iexact Hz
  iapply (Entails.of_eq (rest_oc m c j)) $$ Hpay

/-- What sending piece `kv` of chunk `ch` to its `i`-th peer takes. -/
def kvRdy (ch : Fin 2) (c t : Dev nD) (i : Fin 3) (kv : Fin 2) : sProp 𝕄 :=
  iprop(owns (c : Thread nD τ) (gM kv t) fullShare (src m kv t c)
    ∗ ((∃ v, owns (t : Thread nD τ) (cM ch kv) fullShare v) ∗ reached ER (oc t (jr ch kv)) 0)
    ∗ dorm c (js i kv) ∗ dutyTok ER (oc c (js i kv)) 0 0 ∗ dutyTok ER (oc t (jr ch kv)) 0 0)

theorem kv_send (κ : GSem nD τ sig → ℕ) (ch : Fin 2) (c t : Dev nD) (i : Fin 3) (kv : Fin 2) (ht : toD (Fin.rev i) c = t) (hc : chD ch = c)
    {n : Dev nD} (hn : n = t) {sS sR : DmaSem sig} (hS : sS = ow (js i kv)) (hR : sR = ow (jr ch kv))
    {a b : Memref sig .tc .vmem S4x2x128x64 .bf16} (ha : a = gM kv t) (hb : b = cM ch kv)
    {hsc : b.view.ref.isScScratch = false} {h : a.view.WordExact} {h' : b.view.WordExact}
    {hT : DmaTarget.Typed .vmem (.dma sR) (.remote (Dev.tc n) b (.dma sS) hsc)}
    {O O' : CellTallies nD τ sig Unit} (hO : O' = O + tallyAt (oc t (jr ch kv)) () N₁)
    {α : Type} {Q : α → sProp 𝕄} {k : PUnit → Prog (TpuEff nD τ sig (Elt F) Λ₀ .tc) α} :
    iprop(recs m κ ∗ kvRdy m ch c t i kv ∗ owe c O')
      ⊢ iprop(((owe c O ∗ wt c (js i kv)) -∗ wp frame (wpE (defs₀ (F := F)) 𝒱₀ c none) Set.univ (k ⟨⟩) Q)
        -∗ wp frame (wpE (defs₀ (F := F)) 𝒱₀ c none) Set.univ
          (.op (.enqueueDma a (.remote (Dev.tc n) b (.dma sS) hsc) (.dma sR) h h' hT) k) Q) := by
  subst hn hS hR ha hb
  unfold kvRdy owe
  iintro ⟨#HI, ⟨Hs, ⟨⟨%v, Hd⟩, #Hr⟩, Hdm, Ht1, Ht2⟩, ⟨%W, HO⟩⟩ Hk
  imod (open_ow m κ c (js i kv)) $$ [Hdm] with ⟨Hat, #HrS⟩
  · isplitr; · iexact HI
    iexact Hdm
  unfold owns
  icases Hs with ⟨%fs, %hfs, Hs⟩
  icases Hd with ⟨%fd, -, Hd⟩
  iapply (Rounds.wp_send_pointsTo 𝒱₀ ER (sch m) (c : Thread nD τ) none (c' := (n : Thread nD τ)) (src := gM kv n) (dst := cM ch kv)
      (sS := .dma (ow (js i kv))) (sem := .dma (ow (jr ch kv))) (q := fullShare) (fs := fs) (fd := fd)
      (κ₁ := κ (oc c (js i kv))) (κ₂ := κ (oc n (jr ch kv))) (r₁ := 0) (r₂ := 0) (d₁ := 0) (d₂ := 0)
      (by rw [duties_oc]; exact Finset.mem_singleton_self _) (by rw [duties_oc]; exact Finset.mem_singleton_self _)
      () () N₁ (cM_amount ch kv (.dma (ow (jr ch kv)))) ((amount_oc m c _ _).trans (amt_js i kv)) ((amount_oc m n _ _).trans (amt_jr ch kv)) O hO (W := W)
      (by rw [payload_oc, owPay_js, ht, ← hfs]; exact owns_intro _ _ _ _)
      (by rw [payload_oc, owPay_jr, hc, ← hfs]
          refine (owns_intro _ _ _ _).trans (Entails.of_eq (congrArg _ ?_))
          exact View.read_write_univ _ _)) $$ [Hs Hd HO Ht1 Ht2]
  · isplitr; · iapply (recs_oc m κ c _) $$ HI
    isplitr; · iapply (recs_oc m κ n _) $$ HI
    isplitl [Hs]; · iexact Hs
    isplitl [Hd]; · iexact Hd
    isplitl [HO]; · iexact HO
    isplitl [Ht1]; · iexact Ht1
    isplitr; · iexact HrS
    isplitl [Ht2]; · iexact Ht2
    iexact Hr
  iintro ⟨Hc, HO⟩
  iapply Hk
  isplitl [HO]; · iexists W; iexact HO
  unfold wt
  isplitl [Hc]; · rw [amt_js]; iexact Hc
  iexact Hat

/-- What sending the part in direction `k` takes beside a share of it. -/
def ptRdy (c : Dev nD) (k : Fin 3) : sProp 𝕄 :=
  iprop(((∃ v, owns (toD k c : Thread nD τ) (oM k.succ) fullShare v) ∗ reached ER (oc (toD k c) (ji k)) 0)
    ∗ dorm c (jo k) ∗ dutyTok ER (oc c (jo k)) 0 0 ∗ dutyTok ER (oc (toD k c) (ji k)) 0 0)

theorem pt_send (κ : GSem nD τ sig → ℕ) (c : Dev nD) (kk : Fin 3)
    {n : Dev nD} (hn : n = toD kk c) {sS sR : DmaSem sig} (hS : sS = ow (jo kk)) (hR : sR = ow (ji kk))
    {a b : Memref sig .tc .vmem S2x128x512 .bf16} (ha : a = oM 0) (hb : b = oM kk.succ)
    {hsc : b.view.ref.isScScratch = false} {h : a.view.WordExact} {h' : b.view.WordExact}
    {hT : DmaTarget.Typed .vmem (.dma sR) (.remote (Dev.tc n) b (.dma sS) hsc)}
    {O O' : CellTallies nD τ sig Unit} (hO : O' = O + tallyAt (oc (toD kk c) (ji kk)) () N₂)
    {α : Type} {Q : α → sProp 𝕄} {k : PUnit → Prog (TpuEff nD τ sig (Elt F) Λ₀ .tc) α} :
    iprop(recs m κ ∗ owns (c : Thread nD τ) (oM 0) (Ring.shares3 fullShare.right kk) (prt m c) ∗ ptRdy c kk ∗ owe c O')
      ⊢ iprop(((owe c O ∗ wt c (jo kk)) -∗ wp frame (wpE (defs₀ (F := F)) 𝒱₀ c none) Set.univ (k ⟨⟩) Q)
        -∗ wp frame (wpE (defs₀ (F := F)) 𝒱₀ c none) Set.univ
          (.op (.enqueueDma a (.remote (Dev.tc n) b (.dma sS) hsc) (.dma sR) h h' hT) k) Q) := by
  subst hn hS hR ha hb
  unfold ptRdy owe
  iintro ⟨#HI, Hs, ⟨⟨⟨%v, Hd⟩, #Hr⟩, Hdm, Ht1, Ht2⟩, ⟨%W, HO⟩⟩ Hk
  imod (open_ow m κ c (jo kk)) $$ [Hdm] with ⟨Hat, #HrS⟩
  · isplitr; · iexact HI
    iexact Hdm
  unfold owns
  icases Hs with ⟨%fs, %hfs, Hs⟩
  icases Hd with ⟨%fd, -, Hd⟩
  iapply (Rounds.wp_send_pointsTo 𝒱₀ ER (sch m) (c : Thread nD τ) none (c' := (toD kk c : Thread nD τ)) (src := oM 0) (dst := oM kk.succ)
      (sS := .dma (ow (jo kk))) (sem := .dma (ow (ji kk))) (q := Ring.shares3 fullShare.right kk) (fs := fs) (fd := fd)
      (κ₁ := κ (oc c (jo kk))) (κ₂ := κ (oc (toD kk c) (ji kk))) (r₁ := 0) (r₂ := 0) (d₁ := 0) (d₂ := 0)
      (by rw [duties_oc]; exact Finset.mem_singleton_self _) (by rw [duties_oc]; exact Finset.mem_singleton_self _)
      () () N₂ (oM_amount kk.succ) ((amount_oc m c _ _).trans (amt_jo kk)) ((amount_oc m _ _ _).trans (amt_ji kk)) O hO (W := W)
      (by rw [payload_oc, owPay_jo, ← hfs]; exact owns_intro _ _ _ _)
      (by rw [payload_oc, owPay_ji, fr_to, ← hfs]
          refine (owns_intro _ _ _ _).trans (Entails.of_eq (congrArg _ ?_))
          exact View.read_write_univ _ _)) $$ [Hs Hd HO Ht1 Ht2]
  · isplitr; · iapply (recs_oc m κ c _) $$ HI
    isplitr; · iapply (recs_oc m κ (toD kk c) _) $$ HI
    isplitl [Hs]; · iexact Hs
    isplitl [Hd]; · iexact Hd
    isplitl [HO]; · iexact HO
    isplitl [Ht1]; · iexact Ht1
    isplitr; · iexact HrS
    isplitl [Ht2]; · iexact Ht2
    iexact Hr
  iintro ⟨Hc, HO⟩
  iapply Hk
  isplitl [HO]; · iexists W; iexact HO
  unfold wt
  isplitl [Hc]; · rw [amt_jo]; iexact Hc
  iexact Hat

/-! ## Loads and stores of a piece -/

theorem ld_piece (c : Dev nD) {sh s' : Shape} {e : EltTy} {M : Memref sig .tc .vmem sh e} {r : Rect sh} {hr} {hq : r.shape.Squeezes s'}
    (hc : s'.ShapeCasts r.shape) (hc' : r.shape.ShapeCasts s') {hl : M.view.LoadsAt r.toLoadRect} {q : PosShare TreeShare} {v : s'.Idx → Elt F e}
    {α : Type} {Q : α → sProp 𝕄} {k : (r.shape.Idx → Elt F e) → Prog (TpuEff nD τ sig (Elt F) Λ₀ .tc) α} :
    owns (c : Thread nD τ) ((M.slice r hr).squeeze s' hq) q v
      ⊢ iprop((owns (c : Thread nD τ) ((M.slice r hr).squeeze s' hq) q v
          -∗ wp frame (wpE (defs₀ (F := F)) 𝒱₀ c none) Set.univ (k (shapeCast r.shape v hc)) Q)
        -∗ wp frame (wpE (defs₀ (F := F)) 𝒱₀ c none) Set.univ (.op (.load M r.toLoadRect hl) k) Q) := by
  unfold owns
  iintro ⟨%f, %hf, H⟩ Hk
  iapply (wp_load_rect 𝒱₀ (c : Thread nD τ) none Set.univ (m := M) (r := r) (S := ((M.slice r hr).squeeze s' hq).view.set) (q := q) (f := f)
    (subset_of_eq (View.set_reshape (M.slice r hr).view hq.numel_eq).symm)) $$ H
  iintro H
  rw [show (M.access r).read (Elt F) f = shapeCast r.shape v hc from by
    rw [← hf, Memref.read_squeeze_slice M r hr hq hc' f, shapeCast_shapeCast]; rfl]
  iapply Hk
  iexists f; isplitr; · ipureintro; exact hf
  iexact H

theorem st_piece (c : Dev nD) {sh s' : Shape} {e : EltTy} {M : Memref sig .tc .vmem sh e} {r : Rect sh} {hr} {hq : r.shape.Squeezes s'}
    (hc' : r.shape.ShapeCasts s') {w : r.shape.Idx → Elt F e} {hx : (M.access r).Stores Finset.univ} {hm} {v : s'.Idx → Elt F e}
    {α : Type} {Q : α → sProp 𝕄} {k : PUnit → Prog (TpuEff nD τ sig (Elt F) Λ₀ .tc) α} :
    owns (c : Thread nD τ) ((M.slice r hr).squeeze s' hq) fullShare v
      ⊢ iprop((owns (c : Thread nD τ) ((M.slice r hr).squeeze s' hq) fullShare (shapeCast s' w hc')
          -∗ wp frame (wpE (defs₀ (F := F)) 𝒱₀ c none) Set.univ (k ⟨⟩) Q)
        -∗ wp frame (wpE (defs₀ (F := F)) 𝒱₀ c none) Set.univ (.op (.store M r w Finset.univ hx hm) k) Q) := by
  unfold owns
  iintro ⟨%f, %hf, H⟩ Hk
  iapply (wp_store 𝒱₀ (c : Thread nD τ) none Set.univ (m := M) (r := r) (Mk := Finset.univ) (S := ((M.slice r hr).squeeze s' hq).view.set) (f := f)
    (subset_of_eq (View.set_reshape (M.slice r hr).view hq.numel_eq).symm)) $$ H
  iintro H
  iapply Hk
  iexists _; isplitr
  · ipureintro
    show ((M.slice r hr).squeeze s' hq).view.read (Elt F) ((M.access r).write (Elt F) f w Finset.univ) = _
    rw [Memref.read_squeeze_slice M r hr hq hc']
    exact congrArg (fun z => shapeCast s' z hc') (View.read_write_univ (v := M.access r) f w)
  iexact H

theorem ld_grp (c : Dev nD) {sh : Shape} {e : EltTy} {M : Memref sig .tc .vmem sh e} {r : Rect sh} {hr}
    {hl : M.view.LoadsAt r.toLoadRect} {q : PosShare TreeShare} {v : r.shape.Idx → Elt F e}
    {α : Type} {Q : α → sProp 𝕄} {k : (r.shape.Idx → Elt F e) → Prog (TpuEff nD τ sig (Elt F) Λ₀ .tc) α} :
    owns (c : Thread nD τ) (M.slice r hr) q v
      ⊢ iprop((owns (c : Thread nD τ) (M.slice r hr) q v -∗ wp frame (wpE (defs₀ (F := F)) 𝒱₀ c none) Set.univ (k v) Q)
        -∗ wp frame (wpE (defs₀ (F := F)) 𝒱₀ c none) Set.univ (.op (.load M r.toLoadRect hl) k) Q) := by
  unfold owns
  iintro ⟨%f, %hf, H⟩ Hk
  iapply (wp_load_rect 𝒱₀ (c : Thread nD τ) none Set.univ (m := M) (r := r) (S := (M.slice r hr).view.set) (q := q) (f := f)
    (Finset.Subset.refl _)) $$ H
  iintro H
  rw [show (M.access r).read (Elt F) f = v from hf]
  iapply Hk
  iexists f; isplitr; · ipureintro; exact hf
  iexact H

end Cert.KernelIdeal.Talk
-- ==== Proof.KI.Prep.lean ====
/- The pieces a device hands over at the barrier and gets there, and how its buffers split into the pieces the copies move. -/
module

public import proofs.«01_k».proof.Proof.KI.Steps
public import Idealize.ShloMosaic.Lib.MemrefSat

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- Some contents of a memref. -/
def any (c : Dev nD) {sp : Space} {sh : Shape} {e : EltTy} (M : Memref sig .tc sp sh e) : sProp 𝕄 := iprop(∃ v, owns (c : Thread nD τ) M fullShare v)

/-- A place for a piece of keys or values, and its landing cell, not opened. -/
def seat (c : Dev nD) (ch kv : Fin 2) : sProp 𝕄 := iprop(any c (cM ch kv) ∗ dorm c (jr ch kv))

/-- What device `c` keeps of chunk `ch` at the barrier: its own places, or its positions at the landing cells. -/
def keep (c : Dev nD) (ch : Fin 2) : sProp 𝕄 :=
  if c = chD ch then iprop(seat c ch 0 ∗ seat c ch 1) else iprop(atPos ER (oc c (jr ch 0)) 0 ∅ 0 ∗ atPos ER (oc c (jr ch 1)) 0 ∅ 0)

theorem keep_own (ch : Fin 2) : keep (F := F) (chD ch) ch = iprop(seat (chD ch) ch 0 ∗ seat (chD ch) ch 1) := if_pos rfl
theorem keep_ne (c : Dev nD) (ch : Fin 2) (h : c ≠ chD ch) :
    keep (F := F) c ch = iprop(atPos ER (oc c (jr ch 0)) 0 ∅ 0 ∗ atPos ER (oc c (jr ch 1)) 0 ∅ 0) := if_neg h

theorem kvPay_chD (ch : Fin 2) (p : Dev nD) : kvPay (F := F) (chD ch) p
    = iprop((any p (cM ch 0) ∗ reached ER (oc p (jr ch 0)) 0) ∗ (any p (cM ch 1) ∗ reached ER (oc p (jr ch 1)) 0)) := by
  fin_cases ch <;> rfl
theorem kvPay_ge (c p : Dev nD) (h : 2 ≤ c.val) : kvPay (F := F) c p = iprop(emp) := dif_neg (by omega)

theorem open_seat (κ : GSem nD τ sig → ℕ) (c : Dev nD) (ch kv : Fin 2) :
    iprop(recs m κ ∗ seat c ch kv) ⊢ (|={Set.univ}=> ((any c (cM ch kv) ∗ reached ER (oc c (jr ch kv)) 0) ∗ atPos ER (oc c (jr ch kv)) 0 ∅ 0) : sProp 𝕄) := by
  unfold seat
  iintro ⟨#HI, Hm, Hd⟩
  imod (open_ow m κ c (jr ch kv)) $$ [Hd] with ⟨Hat, Hr⟩
  · isplitr; · iexact HI
    iexact Hd
  imodintro
  isplitr [Hat]
  · isplitl [Hm] <;> iassumption
  iexact Hat

/-- Chunk `ch`'s places handed to its owner, if that is not `c`. -/
theorem give_one (κ : GSem nD τ sig → ℕ) (c : Dev nD) (ch : Fin 2) (h : c ≠ chD ch) :
    iprop(recs m κ ∗ seat c ch 0 ∗ seat c ch 1) ⊢ (|={Set.univ}=> (kvPay (chD ch) c ∗ keep c ch) : sProp 𝕄) := by
  rw [kvPay_chD]; unfold keep; rw [if_neg h]
  iintro ⟨#HI, H0, H1⟩
  imod (open_seat m κ c ch 0) $$ [H0] with ⟨Hp0, Ha0⟩
  · isplitr; · iexact HI
    iexact H0
  imod (open_seat m κ c ch 1) $$ [H1] with ⟨Hp1, Ha1⟩
  · isplitr; · iexact HI
    iexact H1
  imodintro
  isplitr [Ha0 Ha1]
  · isplitl [Hp0] <;> iassumption
  isplitl [Ha0] <;> iassumption

theorem dev_cases (c : Dev nD) : c = 0 ∨ c = 1 ∨ c = 2 ∨ c = 3 := by revert c; decide

/-- The places for keys and values, dealt out. -/
theorem give_kv (κ : GSem nD τ sig → ℕ) (c : Dev nD) :
    iprop(recs m κ ∗ (seat c 0 0 ∗ seat c 0 1) ∗ (seat c 1 0 ∗ seat c 1 1))
      ⊢ (|={Set.univ}=> ((kvPay (toD 1 c) c ∗ kvPay (toD 0 c) c ∗ kvPay (toD 2 c) c) ∗ keep c 0 ∗ keep c 1) : sProp 𝕄) := by
  have e3 (p : Dev nD) : kvPay (F := F) 3 p = iprop(emp) := kvPay_ge 3 p (by decide)
  have e2 (p : Dev nD) : kvPay (F := F) 2 p = iprop(emp) := kvPay_ge 2 p (by decide)
  iintro ⟨#HI, H0, H1⟩
  rcases dev_cases c with rfl | rfl | rfl | rfl
  · rw [show toD 1 (0 : Dev nD) = 3 from rfl, show toD 0 (0 : Dev nD) = chD 1 from rfl, show toD 2 (0 : Dev nD) = 2 from rfl, e3, e2]
    imod (give_one m κ 0 1 (by decide)) $$ [H1] with ⟨Hp, Hk⟩
    · isplitr; · iexact HI
      iexact H1
    imodintro
    isplitl [Hp]
    · isplitr; · iempintro
      isplitl; · iexact Hp
      iempintro
    isplitl [H0]
    · rw [show keep (F := F) 0 0 = _ from keep_own 0]; iexact H0
    iexact Hk
  · rw [show toD 1 (1 : Dev nD) = chD 0 from rfl, show toD 0 (1 : Dev nD) = 2 from rfl, show toD 2 (1 : Dev nD) = 3 from rfl, e3, e2]
    imod (give_one m κ 1 0 (by decide)) $$ [H0] with ⟨Hp, Hk⟩
    · isplitr; · iexact HI
      iexact H0
    imodintro
    isplitl [Hp]
    · isplitl; · iexact Hp
      isplitr <;> iempintro
    isplitl [Hk]; · iexact Hk
    rw [show keep (F := F) 1 1 = _ from keep_own 1]; iexact H1
  · rw [show toD 1 (2 : Dev nD) = chD 1 from rfl, show toD 0 (2 : Dev nD) = 3 from rfl, show toD 2 (2 : Dev nD) = chD 0 from rfl, e3]
    imod (give_one m κ 2 0 (by decide)) $$ [H0] with ⟨Hp0, Hk0⟩
    · isplitr; · iexact HI
      iexact H0
    imod (give_one m κ 2 1 (by decide)) $$ [H1] with ⟨Hp1, Hk1⟩
    · isplitr; · iexact HI
      iexact H1
    imodintro
    isplitl [Hp0 Hp1]
    · isplitl [Hp1]; · iexact Hp1
      isplitr; · iempintro
      iexact Hp0
    isplitl [Hk0] <;> iassumption
  · rw [show toD 1 (3 : Dev nD) = 2 from rfl, show toD 0 (3 : Dev nD) = chD 0 from rfl, show toD 2 (3 : Dev nD) = chD 1 from rfl, e2]
    imod (give_one m κ 3 0 (by decide)) $$ [H0] with ⟨Hp0, Hk0⟩
    · isplitr; · iexact HI
      iexact H0
    imod (give_one m κ 3 1 (by decide)) $$ [H1] with ⟨Hp1, Hk1⟩
    · isplitr; · iexact HI
      iexact H1
    imodintro
    isplitl [Hp0 Hp1]
    · isplitr; · iempintro
      isplitl [Hp0] <;> iassumption
    isplitl [Hk0] <;> iassumption

theorem barPay_to (c p : Dev nD) (k : Fin 3) (h : toD k p = c) :
    iprop((any c (oM k.succ) ∗ reached ER (oc c (ji k)) 0) ∗ kvPay p c) ⊢ (barPay p k : sProp 𝕄) := by
  unfold barPay any; rw [h]

/-- Everything handed over at the barrier. -/
theorem give (κ : GSem nD τ sig → ℕ) (c : Dev nD) :
    iprop(recs m κ ∗ (any c (oM 1) ∗ any c (oM 2) ∗ any c (oM 3)) ∗ (dorm c (ji 0) ∗ dorm c (ji 1) ∗ dorm c (ji 2))
        ∗ (seat c 0 0 ∗ seat c 0 1) ∗ (seat c 1 0 ∗ seat c 1 1))
      ⊢ (|={Set.univ}=> ((barPay (toD 1 c) 0 ∗ barPay (toD 0 c) 1 ∗ barPay (toD 2 c) 2)
        ∗ (atPos ER (oc c (ji 0)) 0 ∅ 0 ∗ atPos ER (oc c (ji 1)) 0 ∅ 0 ∗ atPos ER (oc c (ji 2)) 0 ∅ 0) ∗ keep c 0 ∗ keep c 1) : sProp 𝕄) := by
  iintro ⟨#HI, ⟨Hm1, Hm2, Hm3⟩, ⟨Hd0, Hd1, Hd2⟩, Hs⟩
  imod (give_kv m κ c) $$ [Hs] with ⟨⟨Hk1, Hk0, Hk2⟩, Hkeep⟩
  · isplitr; · iexact HI
    iexact Hs
  imod (open_ow m κ c (ji 0)) $$ [Hd0] with ⟨Ha0, Hr0⟩
  · isplitr; · iexact HI
    iexact Hd0
  imod (open_ow m κ c (ji 1)) $$ [Hd1] with ⟨Ha1, Hr1⟩
  · isplitr; · iexact HI
    iexact Hd1
  imod (open_ow m κ c (ji 2)) $$ [Hd2] with ⟨Ha2, Hr2⟩
  · isplitr; · iexact HI
    iexact Hd2
  imodintro
  isplitl [Hm1 Hm2 Hm3 Hk1 Hk0 Hk2 Hr0 Hr1 Hr2]
  · isplitl [Hm1 Hr0 Hk1]
    · iapply (barPay_to c (toD 1 c) 0 (to_fr 0 c))
      isplitr [Hk1]
      · isplitl [Hm1]; · iexact Hm1
        iexact Hr0
      iexact Hk1
    isplitl [Hm2 Hr1 Hk0]
    · iapply (barPay_to c (toD 0 c) 1 (to_fr 1 c))
      isplitr [Hk0]
      · isplitl [Hm2]; · iexact Hm2
        iexact Hr1
      iexact Hk0
    iapply (barPay_to c (toD 2 c) 2 (to_fr 2 c))
    isplitr [Hk2]
    · isplitl [Hm3]; · iexact Hm3
      iexact Hr2
    iexact Hk2
  isplitl [Ha0 Ha1 Ha2]
  · isplitl [Ha0]; · iexact Ha0
    isplitl [Ha1] <;> iassumption
  iexact Hkeep

/-- What the barrier takes beside what is handed over. -/
def barIn (c : Dev nD) : sProp 𝕄 :=
  iprop(atPos ER (bc c) 0 ∅ 0 ∗ cred (tallyAt (bc c) () 3)
    ∗ dutyTok ER (bc (toD 1 c)) 0 0 ∗ dutyTok ER (bc (toD 0 c)) 0 1 ∗ dutyTok ER (bc (toD 2 c)) 0 2)

theorem barrier (κ : GSem nD τ sig → ℕ) (c : Dev nD) {n1 n2 n3 : Dev nD} (h1 : n1 = toD 1 c) (h2 : n2 = toD 0 c) (h3 : n3 = toD 2 c)
    {α : Type} {Q : α → sProp 𝕄} {k : PUnit → Prog (TpuEff nD τ sig (Elt F) Λ₀ .tc) α} :
    iprop(recs m κ ∗ levAts L lv ∗ owe c (O₀ c) ∗ barIn c ∗ (barPay (toD 1 c) 0 ∗ barPay (toD 0 c) 1 ∗ barPay (toD 2 c) 2))
      ⊢ iprop(((owe c (mO c) ∗ atPos ER (bc c) (0 + 1) ∅ 0 ∗ barPay c 0 ∗ barPay c 1 ∗ barPay c 2)
          -∗ wp frame (wpE (defs₀ (F := F)) 𝒱₀ c none) Set.univ (k ⟨⟩) Q)
        -∗ wp frame (wpE (defs₀ (F := F)) 𝒱₀ c none) Set.univ
          (.op (.semSignal (n1, .tc) barS (1#32 : BitVec 32).toInt) fun _ => .op (.semSignal (n2, .tc) barS (1#32 : BitVec 32).toInt) fun _ =>
            .op (.semSignal (n3, .tc) barS (1#32 : BitVec 32).toInt) fun _ => .op (.semWait barS (3#32 : BitVec 32).toInt) k) Q) := by
  subst h1 h2 h3
  unfold barIn owe
  iintro ⟨#HI, #Hlev, ⟨%W, HO⟩, ⟨Hat, Hc, Ht1, Ht0, Ht2⟩, Hp1, Hp0, Hp2⟩ Hk
  unfold O₀
  iapply (Rounds.wp_signal 𝒱₀ ER (sch m) (c : Thread nD τ) none (dst := (toD 1 c : Thread nD τ)) (κ := κ (bc (toD 1 c)))
      (d := 0) (by rw [duties_bc]; exact Finset.mem_univ _) ((amount_bc m _ 0).trans (by decide)) ()
      (mO c + tallyAt (bc (toD 2 c)) () 1 + tallyAt (bc (toD 0 c)) () 1) rfl) $$ [HO Ht1 Hp1]
  · isplitr; · iapply (recs_bc m κ (toD 1 c)) $$ HI
    isplitl [HO]; · iexact HO
    isplitl [Ht1]; · iexact Ht1
    isplitl [Hp1]; · rw [payload_bc]; iexact Hp1
    iapply (recs_rd m κ (toD 1 c)) $$ HI
  iintro HO
  iapply (Rounds.wp_signal 𝒱₀ ER (sch m) (c : Thread nD τ) none (dst := (toD 0 c : Thread nD τ)) (κ := κ (bc (toD 0 c)))
      (d := 1) (by rw [duties_bc]; exact Finset.mem_univ _) ((amount_bc m _ 1).trans (by decide)) ()
      (mO c + tallyAt (bc (toD 2 c)) () 1) rfl) $$ [HO Ht0 Hp0]
  · isplitr; · iapply (recs_bc m κ (toD 0 c)) $$ HI
    isplitl [HO]; · iexact HO
    isplitl [Ht0]; · iexact Ht0
    isplitl [Hp0]; · rw [payload_bc]; iexact Hp0
    iapply (recs_rd m κ (toD 0 c)) $$ HI
  iintro HO
  iapply (Rounds.wp_signal 𝒱₀ ER (sch m) (c : Thread nD τ) none (dst := (toD 2 c : Thread nD τ)) (κ := κ (bc (toD 2 c)))
      (d := 2) (by rw [duties_bc]; exact Finset.mem_univ _) ((amount_bc m _ 2).trans (by decide)) ()
      (mO c) rfl) $$ [HO Ht2 Hp2]
  · isplitr; · iapply (recs_bc m κ (toD 2 c)) $$ HI
    isplitl [HO]; · iexact HO
    isplitl [Ht2]; · iexact Ht2
    isplitl [Hp2]; · rw [payload_bc]; iexact Hp2
    iapply (recs_rd m κ (toD 2 c)) $$ HI
  iintro HO
  iapply (Rounds.wp_wait_rest_token 𝒱₀ ER (sch m) (c : Thread nD τ) none (κ := κ (bc c))
      (wpE_semWait_eq 𝒱₀ (c : Thread nD τ) none Set.univ) (Set.mem_univ _) () (O := mO c) (W := W) (R := 0) (m := 0) (T := ∅)
      (by rw [expect_bc]; decide)) $$ [Hc HO Hat]
  · isplitr; · iapply (recs_bc m κ c) $$ HI
    isplitl [Hc]; · iexact Hc
    isplitl [HO]; · iexact HO
    isplitr; · iapply (mayWait (mO_above c) c _ (by decide)) $$ Hlev
    iexact Hat
  iintro ⟨HO, Hat, -, Hpay⟩
  iapply Hk
  isplitl [HO]; · iexists _; iexact HO
  isplitl [Hat]; · iexact Hat
  iapply (Entails.of_eq (rest_bc m c)) $$ Hpay

/-! ## Splitting the buffers -/

theorem four {P : Fin 4 → sProp 𝕄} : bigSep Finset.univ P = iprop(P 0 ∗ P 1 ∗ P 2 ∗ P 3) := by
  rw [bigSep_univ_eq_bigSepL [0, 1, 2, 3] (by decide) (by decide), bigSepL_cons_cons, bigSepL_cons_cons, bigSepL_cons_cons, bigSepL_singleton]
  rfl

section Split

variable (c : Dev nD) {sh s' : Shape} {e : EltTy} (M : Memref sig .tc .vmem sh e) (r : Fin 4 → Rect sh) (hr : ∀ t a, (r t).stride a = 1)
  (hq : ∀ t, (r t).shape.Squeezes s')
  (hd : ∀ t t', t ≠ t' → Disjoint (r t).set (r t').set)
  (hcov : (Finset.univ : Finset (Fin 4)).biUnion (fun t => (r t).set) = Finset.univ)
include hd hcov

theorem any_split : any c M ⊢ (bigSep Finset.univ fun t => any c ((M.slice (r t) (hr t)).squeeze s' (hq t)) : sProp 𝕄) := by
  have h1 (v : sh.Idx → Elt F e) (t : Fin 4) : (owns (c : Thread nD τ) (M.slice (r t) (hr t)) fullShare (fun j => v ((r t).emb j)) : sProp 𝕄)
      ⊢ any c ((M.slice (r t) (hr t)).squeeze s' (hq t)) := by
    unfold any owns
    iintro ⟨%f, -, H⟩
    iexists ((M.slice (r t) (hr t)).squeeze s' (hq t)).view.read (Elt F) f
    iexists f
    isplitr; · ipureintro; rfl
    rw [show ((M.slice (r t) (hr t)).squeeze s' (hq t)).view.set = (M.slice (r t) (hr t)).view.set from View.set_reshape _ _]
    iexact H
  have h2 (v : sh.Idx → Elt F e) : (owns (c : Thread nD τ) M fullShare v : sProp 𝕄)
      ⊢ (bigSep Finset.univ fun t => any c ((M.slice (r t) (hr t)).squeeze s' (hq t))) :=
    (owns_rects (c : Thread nD τ) M fullShare r hr hd hcov v).trans (BI.bigSep_mono fun t _ => h1 v t)
  conv => lhs; unfold any
  iintro ⟨%v, H⟩
  iapply (h2 v) $$ H

theorem any_join : (bigSep Finset.univ fun t => any c ((M.slice (r t) (hr t)).squeeze s' (hq t)) : sProp 𝕄) ⊢ any c M := by
  have h1 (t : Fin 4) : (any c ((M.slice (r t) (hr t)).squeeze s' (hq t)) : sProp 𝕄)
      ⊢ iprop(∃ f, M.view.loc (c : Thread nD τ) ↦[(M.view.slice (r t)).set]{fullShare} f) := by
    unfold any owns
    iintro ⟨%v, %f, -, H⟩
    iexists f
    rw [← show ((M.slice (r t) (hr t)).squeeze s' (hq t)).view.set = (M.view.slice (r t)).set from View.set_reshape _ _]
    iexact H
  have hset : (Finset.univ : Finset (Fin 4)).biUnion (fun t => (M.view.slice (r t)).set) = M.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, -, hx⟩ := Finset.mem_biUnion.mp (hcov.symm ▸ Finset.mem_univ x)
      exact Finset.mem_biUnion.mpr ⟨t, Finset.mem_univ _, by rw [View.set_slice]; exact Finset.mem_map_of_mem _ hx⟩
  have hdd (t t' : Fin 4) (h : t ≠ t') : Disjoint (M.view.slice (r t)).set (M.view.slice (r t')).set := by
    rw [View.set_slice, View.set_slice]; exact (Finset.disjoint_map _).mpr (hd t t' h)
  have h3 : (iprop(∃ g, M.view.loc (c : Thread nD τ) ↦[M.view.set]{fullShare} g) : sProp 𝕄) ⊢ any c M := by
    unfold any
    iintro ⟨%g, H⟩
    iexists M.view.read (Elt F) g
    iapply (owns_intro _ _ _ _) $$ H
  have h4 : (bigSep Finset.univ fun t => iprop(∃ f, M.view.loc (c : Thread nD τ) ↦[(M.view.slice (r t)).set]{fullShare} f) : sProp 𝕄)
      ⊢ iprop(∃ g, M.view.loc (c : Thread nD τ) ↦[M.view.set]{fullShare} g) :=
    Ring.pointsTo_sub_blocks_join_exists (ℓ := M.view.loc (c : Thread nD τ)) (fun t => (M.view.slice (r t)).set) hdd M.view.set hset
      (fun _ => Classical.arbitrary _)
  exact (BI.bigSep_mono fun t _ => h1 t).trans (h4.trans h3)

end Split

/-! ### The four slots of parts -/

def pOff (t : Fin 4) : Fin 4 → ℕ := ![t.val, 0, 0, 0]
theorem pInb (t : Fin 4) (a : Fin 4) : pOff t a + S1x2x128x512.size a ≤ S4x2x128x512.size a := by revert t a; decide
def pR (t : Fin 4) : Rect S4x2x128x512 := Rect.unit (s := S4x2x128x512) (pOff t) S1x2x128x512.size (pInb t)
theorem pR_disj : ∀ t t' : Fin 4, t ≠ t' → Disjoint (pR t).set (pR t').set :=
  Ring.lead_disjoint (s := S4x2x128x512) (0 : Fin 4) 1 pOff S1x2x128x512.size pInb (fun b => (Nat.one_mul _).symm) rfl
theorem pR_cov : (Finset.univ : Finset (Fin 4)).biUnion (fun t => (pR t).set) = Finset.univ :=
  Ring.lead_cover (s := S4x2x128x512) (0 : Fin 4) 1 pOff S1x2x128x512.size pInb (fun b => (Nat.one_mul _).symm)
    (fun b a ha => by revert b a; decide) rfl (fun a ha => by revert a; decide) rfl

theorem slots_split (c : Dev nD) : any c pM ⊢ (iprop(any c (oM 0) ∗ any c (oM 1) ∗ any c (oM 2) ∗ any c (oM 3)) : sProp 𝕄) :=
  (any_split c pM pR (fun _ _ => rfl) (fun _ => squeezes_S1x2x128x512_S2x128x512) pR_disj pR_cov).trans (Entails.of_eq four)
theorem slots_join (c : Dev nD) : (iprop(any c (oM 0) ∗ any c (oM 1) ∗ any c (oM 2) ∗ any c (oM 3)) : sProp 𝕄) ⊢ any c pM :=
  (Entails.of_eq four.symm).trans (any_join c pM pR (fun _ _ => rfl) (fun _ => squeezes_S1x2x128x512_S2x128x512) pR_disj pR_cov)

/-! ### The four places of keys and values -/

def sOff (t : Fin 4) : Fin 6 → ℕ := ![t.val / 2, t.val % 2, 0, 0, 0, 0]
theorem sInb (t : Fin 4) (a : Fin 6) : sOff t a + S1x1x4x2x128x64.size a ≤ S2x2x4x2x128x64.size a := by revert t a; decide
def sR (t : Fin 4) : Rect S2x2x4x2x128x64 := Rect.unit (s := S2x2x4x2x128x64) (sOff t) S1x1x4x2x128x64.size (sInb t)
theorem sR_disj (t t' : Fin 4) (h : t ≠ t') : Disjoint (sR t).set (sR t').set := by
  rw [Finset.disjoint_left]
  intro i hi hi'
  have h0 := Rect.mem_set_unit.mp hi (0 : Fin 6)
  have h1 := Rect.mem_set_unit.mp hi (1 : Fin 6)
  have h0' := Rect.mem_set_unit.mp hi' (0 : Fin 6)
  have h1' := Rect.mem_set_unit.mp hi' (1 : Fin 6)
  simp only [sOff, S1x1x4x2x128x64, Matrix.cons_val_zero, Matrix.cons_val_one] at h0 h1 h0' h1'
  apply h; apply Fin.ext; omega
theorem sR_cov : (Finset.univ : Finset (Fin 4)).biUnion (fun t => (sR t).set) = Finset.univ := by
  ext i
  simp only [Finset.mem_biUnion, Finset.mem_univ, true_and, iff_true]
  have h0 : (i (0 : Fin 6)).val < 2 := (i (0 : Fin 6)).isLt
  have h1 : (i (1 : Fin 6)).val < 2 := (i (1 : Fin 6)).isLt
  refine ⟨⟨2 * (i (0 : Fin 6)).val + (i (1 : Fin 6)).val, by omega⟩, Rect.mem_set_unit.mpr ?_⟩
  refine Fin.forall_fin_succ.mpr ⟨?_, Fin.forall_fin_succ.mpr ⟨?_, ?_⟩⟩
  · show (2 * (i (0 : Fin 6)).val + (i (1 : Fin 6)).val) / 2 ≤ (i (0 : Fin 6)).val ∧ (i (0 : Fin 6)).val < (2 * (i (0 : Fin 6)).val + (i (1 : Fin 6)).val) / 2 + 1
    omega
  · show (2 * (i (0 : Fin 6)).val + (i (1 : Fin 6)).val) % 2 ≤ (i (1 : Fin 6)).val ∧ (i (1 : Fin 6)).val < (2 * (i (0 : Fin 6)).val + (i (1 : Fin 6)).val) % 2 + 1
    omega
  · intro a
    have ha := (i a.succ.succ).isLt
    fin_cases a <;> exact ⟨Nat.zero_le _, by simpa [sOff, S1x1x4x2x128x64, S2x2x4x2x128x64] using ha⟩

theorem places_split (c : Dev nD) : any c sM ⊢ (iprop(any c (cM 0 0) ∗ any c (cM 0 1) ∗ any c (cM 1 0) ∗ any c (cM 1 1)) : sProp 𝕄) :=
  (any_split c sM sR (fun _ _ => rfl) (fun _ => squeezes_S1x1x4x2x128x64_S4x2x128x64) sR_disj sR_cov).trans (Entails.of_eq four)
theorem places_join (c : Dev nD) : (iprop(any c (cM 0 0) ∗ any c (cM 0 1) ∗ any c (cM 1 0) ∗ any c (cM 1 1)) : sProp 𝕄) ⊢ any c sM :=
  (Entails.of_eq four.symm).trans (any_join c sM sR (fun _ _ => rfl) (fun _ => squeezes_S1x1x4x2x128x64_S4x2x128x64) sR_disj sR_cov)

/-! ### The four head groups -/

def gOff (t : Fin 4) : Fin 4 → ℕ := ![4 * t.val, 0, 0, 0]
theorem gInb (t : Fin 4) (a : Fin 4) : gOff t a + S4x2x128x64.size a ≤ S16x2x128x64.size a := by revert t a; decide
def gRt (t : Fin 4) : Rect S16x2x128x64 := Rect.unit (s := S16x2x128x64) (gOff t) S4x2x128x64.size (gInb t)
theorem gR_disj : ∀ t t' : Fin 4, t ≠ t' → Disjoint (gRt t).set (gRt t').set :=
  Ring.lead_disjoint (s := S16x2x128x64) (0 : Fin 4) 4 gOff S4x2x128x64.size gInb (fun b => rfl) rfl
theorem gR_cov : (Finset.univ : Finset (Fin 4)).biUnion (fun t => (gRt t).set) = Finset.univ :=
  Ring.lead_cover (s := S16x2x128x64) (0 : Fin 4) 4 gOff S4x2x128x64.size gInb (fun b => rfl)
    (fun b a ha => by revert b a; decide) rfl (fun a ha => by revert a; decide) rfl

def wM : Fin 2 → Memref sig .tc .vmem S16x2x128x64 .bf16 := fun | 0 => kM | 1 => vM

theorem groups_split (c : Dev nD) (kv : Fin 2) : (owns (c : Thread nD τ) (wM kv) fullShare (kvS m kv c) : sProp 𝕄)
    ⊢ iprop(owns (c : Thread nD τ) (gM kv 0) fullShare (src m kv 0 c) ∗ owns (c : Thread nD τ) (gM kv 1) fullShare (src m kv 1 c)
      ∗ owns (c : Thread nD τ) (gM kv 2) fullShare (src m kv 2 c) ∗ owns (c : Thread nD τ) (gM kv 3) fullShare (src m kv 3 c)) := by
  refine (owns_rects (c : Thread nD τ) (wM kv) fullShare gRt (fun _ _ => rfl) gR_disj gR_cov (kvS m kv c)).trans ((Entails.of_eq four).trans ?_)
  fin_cases kv <;> exact .rfl
theorem groups_join (c : Dev nD) (kv : Fin 2) :
    iprop(owns (c : Thread nD τ) (gM kv 0) fullShare (src m kv 0 c) ∗ owns (c : Thread nD τ) (gM kv 1) fullShare (src m kv 1 c)
      ∗ owns (c : Thread nD τ) (gM kv 2) fullShare (src m kv 2 c) ∗ owns (c : Thread nD τ) (gM kv 3) fullShare (src m kv 3 c))
    ⊢ (owns (c : Thread nD τ) (wM kv) fullShare (kvS m kv c) : sProp 𝕄) := by
  refine BIBase.Entails.trans ?_ ((Entails.of_eq four.symm).trans (owns_of_rects (c : Thread nD τ) (wM kv) fullShare gRt (fun _ _ => rfl) gR_disj gR_cov (kvS m kv c)))
  fin_cases kv <;> exact .rfl

/-! ### Sharing the part out to its three copies, one share kept to be read -/

theorem lend {sh : Shape} {e : EltTy} (c : Dev nD) (M : Memref sig .tc .vmem sh e) (X : sh.Idx → Elt F e) :
    (owns (c : Thread nD τ) M fullShare X : sProp 𝕄) ⊣⊢ iprop(owns (c : Thread nD τ) M fullShare.left X
      ∗ owns (c : Thread nD τ) M (Ring.shares3 fullShare.right 0) X ∗ owns (c : Thread nD τ) M (Ring.shares3 fullShare.right 1) X
      ∗ owns (c : Thread nD τ) M (Ring.shares3 fullShare.right 2) X) :=
  (owns_halves (c : Thread nD τ) M fullShare X).trans (sep_congr .rfl ((owns_halves (c : Thread nD τ) M fullShare.right X).trans
    (sep_congr .rfl (owns_halves (c : Thread nD τ) M fullShare.right.right X))))

end Cert.KernelIdeal.Talk
-- ==== Proof.KI.Head.lean ====
/- The barrier and the exchange of keys and values, device by device. -/
module

public import proofs.«01_k».proof.Proof.KI.Prep

@[expose] public section

set_option maxHeartbeats 3000000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Loads and stores of whole buffers -/

theorem hz2 : (![0, 0] : Fin 2 → ℕ) = fun _ => 0 := funext fun a => by fin_cases a <;> rfl
theorem hz3 : (![0, 0, 0] : Fin 3 → ℕ) = fun _ => 0 := funext fun a => by fin_cases a <;> rfl

theorem emb_zero {sh : Shape} {off : Fin sh.rank → ℕ} (hz : off = fun _ => 0) {inb : ∀ a, off a + sh.size a ≤ sh.size a} (i : sh.Idx) :
    (Rect.unit off sh.size inb).emb i = i := by
  subst hz; funext a; apply Fin.ext; simp [Rect.emb, Rect.unit]

theorem read_zero {sh : Shape} {e : EltTy} (M : Memref sig .tc .vmem sh e) {off : Fin sh.rank → ℕ} (hz : off = fun _ => 0)
    {inb : ∀ a, off a + sh.size a ≤ sh.size a} (f : M.view.ty.Contents (Elt F)) :
    (M.access (Rect.unit off sh.size inb)).read (Elt F) f = M.view.read (Elt F) f := by
  funext i
  show M.view.read (Elt F) f ((Rect.unit off sh.size inb).emb i) = _
  rw [emb_zero hz]

theorem ld_all (c : Dev nD) {sh : Shape} {e : EltTy} {M : Memref sig .tc .vmem sh e} {off : Fin sh.rank → ℕ} (hz : off = fun _ => 0)
    {inb : ∀ a, off a + sh.size a ≤ sh.size a} {hl : M.view.LoadsAt (Rect.unit off sh.size inb).toLoadRect} {X : sh.Idx → Elt F e}
    {α : Type} {Q : α → sProp 𝕄} {k : (sh.Idx → Elt F e) → Prog (TpuEff nD τ sig (Elt F) Λ₀ .tc) α} :
    (owns (c : Thread nD τ) M fullShare X : sProp 𝕄)
      ⊢ iprop((owns (c : Thread nD τ) M fullShare X -∗ wp frame (wpE (defs₀ (F := F)) 𝒱₀ c none) Set.univ (k X) Q)
        -∗ wp frame (wpE (defs₀ (F := F)) 𝒱₀ c none) Set.univ (.op (.load M (Rect.unit off sh.size inb).toLoadRect hl) k) Q) := by
  unfold owns
  iintro ⟨%f, %hf, H⟩ Hk
  iapply (wp_load_rect 𝒱₀ (c : Thread nD τ) none Set.univ (m := M) (r := Rect.unit off sh.size inb) (S := M.view.set) (q := fullShare) (f := f)
    (View.set_slice_subset _ _)) $$ H
  iintro H
  rw [read_zero M hz f, hf]
  iapply Hk
  iexists f; isplitr; · ipureintro; exact hf
  iexact H

theorem st_all (c : Dev nD) {sh : Shape} {e : EltTy} {M : Memref sig .tc .vmem sh e} {off : Fin sh.rank → ℕ} (hz : off = fun _ => 0)
    {inb : ∀ a, off a + sh.size a ≤ sh.size a} {w : sh.Idx → Elt F e} {hx : (M.access (Rect.unit off sh.size inb)).Stores Finset.univ} {hm} {X : sh.Idx → Elt F e}
    {α : Type} {Q : α → sProp 𝕄} {k : PUnit → Prog (TpuEff nD τ sig (Elt F) Λ₀ .tc) α} :
    (owns (c : Thread nD τ) M fullShare X : sProp 𝕄)
      ⊢ iprop((owns (c : Thread nD τ) M fullShare w -∗ wp frame (wpE (defs₀ (F := F)) 𝒱₀ c none) Set.univ (k ⟨⟩) Q)
        -∗ wp frame (wpE (defs₀ (F := F)) 𝒱₀ c none) Set.univ (.op (.store M (Rect.unit off sh.size inb) w Finset.univ hx hm) k) Q) := by
  unfold owns
  iintro ⟨%f, %hf, H⟩ Hk
  iapply (wp_store 𝒱₀ (c : Thread nD τ) none Set.univ (m := M) (r := Rect.unit off sh.size inb) (Mk := Finset.univ) (S := M.view.set) (f := f)
    (View.set_slice_subset _ _)) $$ H
  iintro H
  iapply Hk
  iexists _; isplitr
  · ipureintro
    rw [← read_zero M hz (inb := inb)]
    exact View.read_write_univ (v := M.access (Rect.unit off sh.size inb)) f w
  iexact H

/-! ## The printed parts at the kernel's buffers -/

abbrev P10 := k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P11 := k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5

/-- The words the body computes from the device's number. -/
abbrev w2 (c : Dev nD) : BitVec 32 := Scalar.remsi (Scalar.divsi (Dev.word c) 1#32) 4#32
abbrev w5 (c : Dev nD) : BitVec 32 := Scalar.remsi (Scalar.subi (Scalar.addi (w2 c) 4#32) 1#32) 4#32
abbrev w7 (c : Dev nD) : BitVec 32 := Scalar.remsi (Scalar.addi (w2 c) 1#32) 4#32
abbrev w9 (c : Dev nD) : BitVec 32 := Scalar.remsi (Scalar.addi (w2 c) 2#32) 4#32

/-- What every device brings to the barrier. -/
def bar0 (c : Dev nD) : sProp 𝕄 :=
  iprop(owe c (O₀ c) ∗ barIn c ∗ (barPay (toD 1 c) 0 ∗ barPay (toD 0 c) 1 ∗ barPay (toD 2 c) 2))

theorem dev1_eq (c : Dev nD) : (⟨k0_dev1 c, k0_dev1_lt c⟩ : Dev nD) = toD 1 c := Fin.ext (k0_dev1_eq c)
theorem dev2_eq (c : Dev nD) : (⟨k0_dev2 c, k0_dev2_lt c⟩ : Dev nD) = toD 0 c := Fin.ext (k0_dev2_eq c)
theorem dev3_eq (c : Dev nD) : (⟨k0_dev3 c, k0_dev3_lt c⟩ : Dev nD) = toD 2 c := Fin.ext (k0_dev3_eq c)

/-- A device with no chunk of its own: the barrier, and the load of `x`. -/
theorem p10_rest (κ : GSem nD τ sig → ℕ) (c : Dev nD) (hc : 2 ≤ c.val) {Q : _ → sProp 𝕄} :
    iprop(recs m κ ∗ levAts L lv ∗ bar0 c ∗ owns (c : Thread nD τ) (Memref.whole cc0_stg0_0) fullShare (xS m c))
      ⊢ iprop(((owe c (orO c) ∗ atPos ER (bc c) (0 + 1) ∅ 0 ∗ (barPay c 0 ∗ barPay c 1 ∗ barPay c 2)
            ∗ owns (c : Thread nD τ) (Memref.whole cc0_stg0_0) fullShare (xS m c)) -∗ Q ⟨c, w2 c, w5 c, w7 c, w9 c, k0_pay5 (xS m c)⟩)
        -∗ wp frame (wpE (defs₀ (F := F)) 𝒱₀ c none) Set.univ (P10 (F := F)) Q) := by
  have hc1 : ¬ k0_cond1 c = 1#1 := by revert c; decide
  have hc2 : ¬ k0_cond2 c = 1#1 := by revert c; decide
  unfold P10 bar0
  simp only [k0_part10_eq_skeleton]; unfold k0_part10_skel
  simp only [semSignalWord, semWaitWord, Prog.lift, Prog.bind_op, Prog.bind_ret, Prog.pure_eq_ret, wp_deviceId, dif_neg hc1, dif_neg hc2]
  iintro ⟨#HI, #Hlev, ⟨HO, Hb, Hp⟩, Hx⟩ Hk
  iapply (barrier m κ c (dev1_eq c) (dev2_eq c) (dev3_eq c)) $$ [HO Hb Hp]
  · isplitr; · iexact HI
    isplitr; · iexact Hlev
    isplitl [HO]; · iexact HO
    isplitl [Hb] <;> iassumption
  iintro ⟨HO, Hat, Hp⟩
  iapply (ld_all c (M := Memref.whole cc0_stg0_0) hz3 (X := xS m c)) $$ Hx
  iintro Hx
  rw [wp_ret]
  imodintro
  iapply Hk
  isplitl [HO]; · rw [show mO c = orO c from dif_neg (by omega)]; iexact HO
  isplitl [Hat]; · iexact Hat
  isplitl [Hp] <;> iassumption

/-! ## A device that sends its chunk -/

theorem pay1_val (v : S4x2x128x64.Idx → Elt F .bf16) : shapeCast S4x2x128x64 (k0_pay1 v) shapeCasts_S1x1x4x2x128x64_S4x2x128x64 = v := by
  unfold k0_pay1; dsimp only; rw [shapeCast_shapeCast, shapeCast_self]
theorem pay2_val (v : S4x2x128x64.Idx → Elt F .bf16) : shapeCast S4x2x128x64 (k0_pay2 v) shapeCasts_S1x1x4x2x128x64_S4x2x128x64 = v := pay1_val v
theorem pay3_val (v : S4x2x128x64.Idx → Elt F .bf16) : shapeCast S4x2x128x64 (k0_pay3 v) shapeCasts_S1x1x4x2x128x64_S4x2x128x64 = v := pay1_val v
theorem pay4_val (v : S4x2x128x64.Idx → Elt F .bf16) : shapeCast S4x2x128x64 (k0_pay4 v) shapeCasts_S1x1x4x2x128x64_S4x2x128x64 = v := pay1_val v

/-- The tokens a send of keys or values takes, and its own cell. -/
def tk (ch : Fin 2) (c t : Dev nD) (i : Fin 3) (kv : Fin 2) : sProp 𝕄 :=
  iprop(dorm c (js i kv) ∗ dutyTok ER (oc c (js i kv)) 0 0 ∗ dutyTok ER (oc t (jr ch kv)) 0 0)

/-- The slot a part goes to, handed over at the barrier. -/
def slot (c : Dev nD) (k : Fin 3) : sProp 𝕄 := iprop(any (toD k c) (oM k.succ) ∗ reached ER (oc (toD k c) (ji k)) 0)

theorem barPay_eq (c : Dev nD) (k : Fin 3) : barPay (F := F) c k = iprop(slot c k ∗ kvPay c (toD k c)) := rfl

theorem barPay_chD (ch : Fin 2) (c : Dev nD) (hc : chD ch = c) (k : Fin 3) :
    barPay (F := F) c k ⊢ iprop(slot c k ∗ (any (toD k c) (cM ch 0) ∗ reached ER (oc (toD k c) (jr ch 0)) 0)
      ∗ (any (toD k c) (cM ch 1) ∗ reached ER (oc (toD k c) (jr ch 1)) 0)) := by
  subst hc; rw [barPay_eq, kvPay_chD]

/-- A load of a group named as a whole. -/
theorem ld_g (c : Dev nD) {sh : Shape} {e : EltTy} {M : Memref sig .tc .vmem sh e} {off : Fin sh.rank → ℕ} {sz : Fin sh.rank → ℕ} {inb} {hr}
    {hl : M.view.LoadsAt (Rect.unit (s := sh) off sz inb).toLoadRect} {q : PosShare TreeShare}
    {g : Memref sig .tc .vmem (Rect.unit (s := sh) off sz inb).shape e} {v : (Rect.unit (s := sh) off sz inb).shape.Idx → Elt F e}
    (hg : g = M.slice (Rect.unit (s := sh) off sz inb) hr)
    {α : Type} {Q : α → sProp 𝕄} {k : ((Rect.unit (s := sh) off sz inb).shape.Idx → Elt F e) → Prog (TpuEff nD τ sig (Elt F) Λ₀ .tc) α} :
    owns (c : Thread nD τ) g q v
      ⊢ iprop((owns (c : Thread nD τ) g q v -∗ wp frame (wpE (defs₀ (F := F)) 𝒱₀ c none) Set.univ (k v) Q)
        -∗ wp frame (wpE (defs₀ (F := F)) 𝒱₀ c none) Set.univ (.op (.load M (Rect.unit (s := sh) off sz inb).toLoadRect hl) k) Q) := by
  subst hg; exact ld_grp c

/-- A load of a piece named as a whole. -/
theorem ld_p (c : Dev nD) {sh s' : Shape} {e : EltTy} {M : Memref sig .tc .vmem sh e} {r : Rect sh} {hr} {hq : r.shape.Squeezes s'}
    (hc : s'.ShapeCasts r.shape) (hc' : r.shape.ShapeCasts s') {hl : M.view.LoadsAt r.toLoadRect} {q : PosShare TreeShare} {v : s'.Idx → Elt F e}
    {g : Memref sig .tc .vmem s' e} (hg : g = (M.slice r hr).squeeze s' hq)
    {α : Type} {Q : α → sProp 𝕄} {k : (r.shape.Idx → Elt F e) → Prog (TpuEff nD τ sig (Elt F) Λ₀ .tc) α} :
    owns (c : Thread nD τ) g q v
      ⊢ iprop((owns (c : Thread nD τ) g q v
          -∗ wp frame (wpE (defs₀ (F := F)) 𝒱₀ c none) Set.univ (k (shapeCast r.shape v hc)) Q)
        -∗ wp frame (wpE (defs₀ (F := F)) 𝒱₀ c none) Set.univ (.op (.load M r.toLoadRect hl) k) Q) := by
  subst hg; exact ld_piece c hc hc'

/-- A store of a piece named as a whole, its contents known under another name. -/
theorem st_p (c : Dev nD) {sh s' : Shape} {e : EltTy} {M : Memref sig .tc .vmem sh e} {r : Rect sh} {hr} {hq : r.shape.Squeezes s'}
    (hc' : r.shape.ShapeCasts s') {w : r.shape.Idx → Elt F e} {hx : (M.access r).Stores Finset.univ} {hm} {v x : s'.Idx → Elt F e}
    (hw : shapeCast s' w hc' = x) {g : Memref sig .tc .vmem s' e} (hg : g = (M.slice r hr).squeeze s' hq)
    {α : Type} {Q : α → sProp 𝕄} {k : PUnit → Prog (TpuEff nD τ sig (Elt F) Λ₀ .tc) α} :
    owns (c : Thread nD τ) g fullShare v
      ⊢ iprop((owns (c : Thread nD τ) g fullShare x
          -∗ wp frame (wpE (defs₀ (F := F)) 𝒱₀ c none) Set.univ (k ⟨⟩) Q)
        -∗ wp frame (wpE (defs₀ (F := F)) 𝒱₀ c none) Set.univ (.op (.store M r w Finset.univ hx hm) k) Q) := by
  subst hw hg; exact st_piece c hc'

/-- Device 0: the barrier, its chunk stored and sent to the three others, and the load of `x`. -/
theorem p10_0 (κ : GSem nD τ sig → ℕ) {Q : _ → sProp 𝕄} :
    iprop(recs m κ ∗ levAts L lv ∗ bar0 0 ∗ owns ((0 : Dev nD) : Thread nD τ) (Memref.whole cc0_stg0_0) fullShare (xS m 0)
        ∗ owns ((0 : Dev nD) : Thread nD τ) (wM 0) fullShare (kvS m 0 0) ∗ owns ((0 : Dev nD) : Thread nD τ) (wM 1) fullShare (kvS m 1 0)
        ∗ (any 0 (cM 0 0) ∗ any 0 (cM 0 1)) ∗ (tk 0 0 2 0 0 ∗ tk 0 0 2 0 1 ∗ tk 0 0 3 1 0 ∗ tk 0 0 3 1 1 ∗ tk 0 0 1 2 0 ∗ tk 0 0 1 2 1))
      ⊢ iprop(((owe 0 (orO 0) ∗ atPos ER (bc 0) (0 + 1) ∅ 0 ∗ (slot 0 0 ∗ slot 0 1 ∗ slot 0 2)
            ∗ owns ((0 : Dev nD) : Thread nD τ) (Memref.whole cc0_stg0_0) fullShare (xS m 0)
            ∗ (owns ((0 : Dev nD) : Thread nD τ) (gM 0 0) fullShare (src m 0 0 0) ∗ owns ((0 : Dev nD) : Thread nD τ) (gM 1 0) fullShare (src m 1 0 0))
            ∗ (owns ((0 : Dev nD) : Thread nD τ) (cM 0 0) fullShare (src m 0 0 0) ∗ owns ((0 : Dev nD) : Thread nD τ) (cM 0 1) fullShare (src m 1 0 0))
            ∗ (wt 0 (js 0 0) ∗ wt 0 (js 0 1) ∗ wt 0 (js 1 0) ∗ wt 0 (js 1 1) ∗ wt 0 (js 2 0) ∗ wt 0 (js 2 1)))
          -∗ Q ⟨0, w2 0, w5 0, w7 0, w9 0, k0_pay5 (xS m 0)⟩)
        -∗ wp frame (wpE (defs₀ (F := F)) 𝒱₀ ((0 : Dev nD) : Thread nD τ) none) Set.univ (P10 (F := F)) Q) := by
  have hc1 : k0_cond1 0 = 1#1 := by decide
  have hc2 : ¬ k0_cond2 0 = 1#1 := by decide
  unfold P10 bar0
  simp only [k0_part10_eq_skeleton]; unfold k0_part10_skel
  simp only [semSignalWord, semWaitWord, Prog.lift, Prog.bind_op, Prog.bind_ret, Prog.pure_eq_ret, wp_deviceId, dif_pos hc1, dif_neg hc2,
    k0_part1_eq_skeleton, k0_part2_eq_skeleton, k0_part3_eq_skeleton, k0_part1_skel, k0_part2_skel, k0_part3_skel]
  iintro ⟨#HI, #Hlev, ⟨HO, Hb, Hp⟩, Hx, Hk, Hv, ⟨Hm0, Hm1⟩, Ht00, Ht01, Ht10, Ht11, Ht20, Ht21⟩ HQ
  iapply (barrier m κ 0 (dev1_eq 0) (dev2_eq 0) (dev3_eq 0)) $$ [HO Hb Hp]
  · isplitr; · iexact HI
    isplitr; · iexact Hlev
    isplitl [HO]; · iexact HO
    isplitl [Hb] <;> iassumption
  iintro ⟨HO, Hat, Hp0, Hp1, Hp2⟩
  ihave Hp0 := (barPay_chD 0 0 rfl 0) $$ Hp0
  ihave Hp1 := (barPay_chD 0 0 rfl 1) $$ Hp1
  ihave Hp2 := (barPay_chD 0 0 rfl 2) $$ Hp2
  icases Hp0 with ⟨Hs0, Hd20, Hd21⟩
  icases Hp1 with ⟨Hs1, Hd10, Hd11⟩
  icases Hp2 with ⟨Hs2, Hd00, Hd01⟩
  ihave Hk := (groups_split m 0 0) $$ Hk
  ihave Hv := (groups_split m 0 1) $$ Hv
  icases Hk with ⟨Hk0, Hk1, Hk2, Hk3⟩
  icases Hv with ⟨Hv0, Hv1, Hv2, Hv3⟩
  unfold any
  icases Hm0 with ⟨%u0, Hm0⟩
  icases Hm1 with ⟨%u1, Hm1⟩
  iapply (ld_g 0 (M := Memref.whole cc0_stg2_0) (off := ![0, 0, 0, 0]) (sz := ![4, 2, 128, 64]) (inb := inb_S16x2x128x64_S4x2x128x64_0_0_0_0) (hr := fun _ => rfl) (g := gM 0 0) (v := src m 0 0 0) rfl) $$ Hk0
  iintro Hk0
  iapply (ld_p 0 (M := Memref.whole cc0_scratch0) (r := Rect.unit (s := S2x2x4x2x128x64) ![0, 0, 0, 0, 0, 0] ![1, 1, 4, 2, 128, 64] inb_S2x2x4x2x128x64_S1x1x4x2x128x64_0_0_0_0_0_0) (hr := fun _ => rfl) (hq := squeezes_S1x1x4x2x128x64_S4x2x128x64)
    shapeCasts_S4x2x128x64_S1x1x4x2x128x64 shapeCasts_S1x1x4x2x128x64_S4x2x128x64 (v := u0) (g := cM 0 0) rfl) $$ Hm0
  iintro Hm0
  iapply (st_p 0 (M := Memref.whole cc0_scratch0) (r := Rect.unit (s := S2x2x4x2x128x64) ![0, 0, 0, 0, 0, 0] ![1, 1, 4, 2, 128, 64] inb_S2x2x4x2x128x64_S1x1x4x2x128x64_0_0_0_0_0_0) (hr := fun _ => rfl) (hq := squeezes_S1x1x4x2x128x64_S4x2x128x64)
    shapeCasts_S1x1x4x2x128x64_S4x2x128x64 (v := u0) (pay1_val (src m 0 0 0)) (g := cM 0 0) rfl) $$ Hm0
  iintro Hm0
  iapply (ld_g 0 (M := Memref.whole cc0_stg3_0) (off := ![0, 0, 0, 0]) (sz := ![4, 2, 128, 64]) (inb := inb_S16x2x128x64_S4x2x128x64_0_0_0_0) (hr := fun _ => rfl) (g := gM 1 0) (v := src m 1 0 0) rfl) $$ Hv0
  iintro Hv0
  iapply (ld_p 0 (M := Memref.whole cc0_scratch0) (r := Rect.unit (s := S2x2x4x2x128x64) ![0, 1, 0, 0, 0, 0] ![1, 1, 4, 2, 128, 64] inb_S2x2x4x2x128x64_S1x1x4x2x128x64_0_1_0_0_0_0) (hr := fun _ => rfl) (hq := squeezes_S1x1x4x2x128x64_S4x2x128x64)
    shapeCasts_S4x2x128x64_S1x1x4x2x128x64 shapeCasts_S1x1x4x2x128x64_S4x2x128x64 (v := u1) (g := cM 0 1) rfl) $$ Hm1
  iintro Hm1
  iapply (st_p 0 (M := Memref.whole cc0_scratch0) (r := Rect.unit (s := S2x2x4x2x128x64) ![0, 1, 0, 0, 0, 0] ![1, 1, 4, 2, 128, 64] inb_S2x2x4x2x128x64_S1x1x4x2x128x64_0_1_0_0_0_0) (hr := fun _ => rfl) (hq := squeezes_S1x1x4x2x128x64_S4x2x128x64)
    shapeCasts_S1x1x4x2x128x64_S4x2x128x64 (v := u1) (pay2_val (src m 1 0 0)) (g := cM 0 1) rfl) $$ Hm1
  iintro Hm1
  unfold tk
  iapply (kv_send m κ 0 0 2 0 0 rfl rfl (n := ⟨k0_dev4, k0_dev4_lt 0 hc1⟩) (Fin.ext k0_dev4_eq) rfl rfl rfl rfl (O := kO 0 0 5) rfl) $$ [HO Hk2 Hd00 Ht00]
  · isplitr; · iexact HI
    isplitr [HO]
    · unfold kvRdy
      isplitl [Hk2]; · iexact Hk2
      isplitl [Hd00]; · iexact Hd00
      iexact Ht00
    iexact HO
  iintro ⟨HO, Hw00⟩
  iapply (kv_send m κ 0 0 2 0 1 rfl rfl (n := ⟨k0_dev5, k0_dev5_lt 0 hc1⟩) (Fin.ext k0_dev5_eq) rfl rfl rfl rfl (O := kO 0 0 4) rfl) $$ [HO Hv2 Hd01 Ht01]
  · isplitr; · iexact HI
    isplitr [HO]
    · unfold kvRdy
      isplitl [Hv2]; · iexact Hv2
      isplitl [Hd01]; · iexact Hd01
      iexact Ht01
    iexact HO
  iintro ⟨HO, Hw01⟩
  iapply (kv_send m κ 0 0 3 1 0 rfl rfl (n := ⟨k0_dev6, k0_dev6_lt 0 hc1⟩) (Fin.ext k0_dev6_eq) rfl rfl rfl rfl (O := kO 0 0 3) rfl) $$ [HO Hk3 Hd10 Ht10]
  · isplitr; · iexact HI
    isplitr [HO]
    · unfold kvRdy
      isplitl [Hk3]; · iexact Hk3
      isplitl [Hd10]; · iexact Hd10
      iexact Ht10
    iexact HO
  iintro ⟨HO, Hw10⟩
  iapply (kv_send m κ 0 0 3 1 1 rfl rfl (n := ⟨k0_dev7, k0_dev7_lt 0 hc1⟩) (Fin.ext k0_dev7_eq) rfl rfl rfl rfl (O := kO 0 0 2) rfl) $$ [HO Hv3 Hd11 Ht11]
  · isplitr; · iexact HI
    isplitr [HO]
    · unfold kvRdy
      isplitl [Hv3]; · iexact Hv3
      isplitl [Hd11]; · iexact Hd11
      iexact Ht11
    iexact HO
  iintro ⟨HO, Hw11⟩
  iapply (kv_send m κ 0 0 1 2 0 rfl rfl (n := ⟨k0_dev8, k0_dev8_lt 0 hc1⟩) (Fin.ext k0_dev8_eq) rfl rfl rfl rfl (O := kO 0 0 1) rfl) $$ [HO Hk1 Hd20 Ht20]
  · isplitr; · iexact HI
    isplitr [HO]
    · unfold kvRdy
      isplitl [Hk1]; · iexact Hk1
      isplitl [Hd20]; · iexact Hd20
      iexact Ht20
    iexact HO
  iintro ⟨HO, Hw20⟩
  iapply (kv_send m κ 0 0 1 2 1 rfl rfl (n := ⟨k0_dev9, k0_dev9_lt 0 hc1⟩) (Fin.ext k0_dev9_eq) rfl rfl rfl rfl (O := kO 0 0 0) rfl) $$ [HO Hv1 Hd21 Ht21]
  · isplitr; · iexact HI
    isplitr [HO]
    · unfold kvRdy
      isplitl [Hv1]; · iexact Hv1
      isplitl [Hd21]; · iexact Hd21
      iexact Ht21
    iexact HO
  iintro ⟨HO, Hw21⟩
  iapply (ld_all 0 (M := Memref.whole cc0_stg0_0) hz3 (X := xS m 0)) $$ Hx
  iintro Hx
  rw [wp_ret]
  imodintro
  iapply HQ
  isplitl [HO]; · iexact HO
  isplitl [Hat]; · iexact Hat
  isplitl [Hs0 Hs1 Hs2]
  · isplitl [Hs0]; · iexact Hs0
    isplitl [Hs1] <;> iassumption
  isplitl [Hx]; · iexact Hx
  isplitl [Hk0 Hv0]
  · isplitl [Hk0] <;> iassumption
  isplitl [Hm0 Hm1]
  · isplitl [Hm0]; · iexact Hm0
    iexact Hm1
  isplitl [Hw00]; · iexact Hw00
  isplitl [Hw01]; · iexact Hw01
  isplitl [Hw10]; · iexact Hw10
  isplitl [Hw11]; · iexact Hw11
  isplitl [Hw20]; · iexact Hw20
  iexact Hw21

/-- Device 1: the barrier, its chunk stored and sent to the three others, and the load of `x`. -/
theorem p10_1 (κ : GSem nD τ sig → ℕ) {Q : _ → sProp 𝕄} :
    iprop(recs m κ ∗ levAts L lv ∗ bar0 1 ∗ owns ((1 : Dev nD) : Thread nD τ) (Memref.whole cc0_stg0_0) fullShare (xS m 1)
        ∗ owns ((1 : Dev nD) : Thread nD τ) (wM 0) fullShare (kvS m 0 1) ∗ owns ((1 : Dev nD) : Thread nD τ) (wM 1) fullShare (kvS m 1 1)
        ∗ (any 1 (cM 1 0) ∗ any 1 (cM 1 1)) ∗ (tk 1 1 3 0 0 ∗ tk 1 1 3 0 1 ∗ tk 1 1 0 1 0 ∗ tk 1 1 0 1 1 ∗ tk 1 1 2 2 0 ∗ tk 1 1 2 2 1))
      ⊢ iprop(((owe 1 (orO 1) ∗ atPos ER (bc 1) (0 + 1) ∅ 0 ∗ (slot 1 0 ∗ slot 1 1 ∗ slot 1 2)
            ∗ owns ((1 : Dev nD) : Thread nD τ) (Memref.whole cc0_stg0_0) fullShare (xS m 1)
            ∗ (owns ((1 : Dev nD) : Thread nD τ) (gM 0 1) fullShare (src m 0 1 1) ∗ owns ((1 : Dev nD) : Thread nD τ) (gM 1 1) fullShare (src m 1 1 1))
            ∗ (owns ((1 : Dev nD) : Thread nD τ) (cM 1 0) fullShare (src m 0 1 1) ∗ owns ((1 : Dev nD) : Thread nD τ) (cM 1 1) fullShare (src m 1 1 1))
            ∗ (wt 1 (js 0 0) ∗ wt 1 (js 0 1) ∗ wt 1 (js 1 0) ∗ wt 1 (js 1 1) ∗ wt 1 (js 2 0) ∗ wt 1 (js 2 1)))
          -∗ Q ⟨1, w2 1, w5 1, w7 1, w9 1, k0_pay5 (xS m 1)⟩)
        -∗ wp frame (wpE (defs₀ (F := F)) 𝒱₀ ((1 : Dev nD) : Thread nD τ) none) Set.univ (P10 (F := F)) Q) := by
  have hc1 : k0_cond2 1 = 1#1 := by decide
  have hc2 : ¬ k0_cond1 1 = 1#1 := by decide
  unfold P10 bar0
  simp only [k0_part10_eq_skeleton]; unfold k0_part10_skel
  simp only [semSignalWord, semWaitWord, Prog.lift, Prog.bind_op, Prog.bind_ret, Prog.pure_eq_ret, wp_deviceId, dif_pos hc1, dif_neg hc2,
    k0_part4_eq_skeleton, k0_part5_eq_skeleton, k0_part6_eq_skeleton, k0_part4_skel, k0_part5_skel, k0_part6_skel]
  iintro ⟨#HI, #Hlev, ⟨HO, Hb, Hp⟩, Hx, Hk, Hv, ⟨Hm0, Hm1⟩, Ht00, Ht01, Ht10, Ht11, Ht20, Ht21⟩ HQ
  iapply (barrier m κ 1 (dev1_eq 1) (dev2_eq 1) (dev3_eq 1)) $$ [HO Hb Hp]
  · isplitr; · iexact HI
    isplitr; · iexact Hlev
    isplitl [HO]; · iexact HO
    isplitl [Hb] <;> iassumption
  iintro ⟨HO, Hat, Hp0, Hp1, Hp2⟩
  ihave Hp0 := (barPay_chD 1 1 rfl 0) $$ Hp0
  ihave Hp1 := (barPay_chD 1 1 rfl 1) $$ Hp1
  ihave Hp2 := (barPay_chD 1 1 rfl 2) $$ Hp2
  icases Hp0 with ⟨Hs0, Hd20, Hd21⟩
  icases Hp1 with ⟨Hs1, Hd10, Hd11⟩
  icases Hp2 with ⟨Hs2, Hd00, Hd01⟩
  ihave Hk := (groups_split m 1 0) $$ Hk
  ihave Hv := (groups_split m 1 1) $$ Hv
  icases Hk with ⟨Hk0, Hk1, Hk2, Hk3⟩
  icases Hv with ⟨Hv0, Hv1, Hv2, Hv3⟩
  unfold any
  icases Hm0 with ⟨%u0, Hm0⟩
  icases Hm1 with ⟨%u1, Hm1⟩
  iapply (ld_g 1 (M := Memref.whole cc0_stg2_0) (off := ![4, 0, 0, 0]) (sz := ![4, 2, 128, 64]) (inb := inb_S16x2x128x64_S4x2x128x64_4_0_0_0) (hr := fun _ => rfl) (g := gM 0 1) (v := src m 0 1 1) rfl) $$ Hk1
  iintro Hk1
  iapply (ld_p 1 (M := Memref.whole cc0_scratch0) (r := Rect.unit (s := S2x2x4x2x128x64) ![1, 0, 0, 0, 0, 0] ![1, 1, 4, 2, 128, 64] inb_S2x2x4x2x128x64_S1x1x4x2x128x64_1_0_0_0_0_0) (hr := fun _ => rfl) (hq := squeezes_S1x1x4x2x128x64_S4x2x128x64)
    shapeCasts_S4x2x128x64_S1x1x4x2x128x64 shapeCasts_S1x1x4x2x128x64_S4x2x128x64 (v := u0) (g := cM 1 0) rfl) $$ Hm0
  iintro Hm0
  iapply (st_p 1 (M := Memref.whole cc0_scratch0) (r := Rect.unit (s := S2x2x4x2x128x64) ![1, 0, 0, 0, 0, 0] ![1, 1, 4, 2, 128, 64] inb_S2x2x4x2x128x64_S1x1x4x2x128x64_1_0_0_0_0_0) (hr := fun _ => rfl) (hq := squeezes_S1x1x4x2x128x64_S4x2x128x64)
    shapeCasts_S1x1x4x2x128x64_S4x2x128x64 (v := u0) (pay3_val (src m 0 1 1)) (g := cM 1 0) rfl) $$ Hm0
  iintro Hm0
  iapply (ld_g 1 (M := Memref.whole cc0_stg3_0) (off := ![4, 0, 0, 0]) (sz := ![4, 2, 128, 64]) (inb := inb_S16x2x128x64_S4x2x128x64_4_0_0_0) (hr := fun _ => rfl) (g := gM 1 1) (v := src m 1 1 1) rfl) $$ Hv1
  iintro Hv1
  iapply (ld_p 1 (M := Memref.whole cc0_scratch0) (r := Rect.unit (s := S2x2x4x2x128x64) ![1, 1, 0, 0, 0, 0] ![1, 1, 4, 2, 128, 64] inb_S2x2x4x2x128x64_S1x1x4x2x128x64_1_1_0_0_0_0) (hr := fun _ => rfl) (hq := squeezes_S1x1x4x2x128x64_S4x2x128x64)
    shapeCasts_S4x2x128x64_S1x1x4x2x128x64 shapeCasts_S1x1x4x2x128x64_S4x2x128x64 (v := u1) (g := cM 1 1) rfl) $$ Hm1
  iintro Hm1
  iapply (st_p 1 (M := Memref.whole cc0_scratch0) (r := Rect.unit (s := S2x2x4x2x128x64) ![1, 1, 0, 0, 0, 0] ![1, 1, 4, 2, 128, 64] inb_S2x2x4x2x128x64_S1x1x4x2x128x64_1_1_0_0_0_0) (hr := fun _ => rfl) (hq := squeezes_S1x1x4x2x128x64_S4x2x128x64)
    shapeCasts_S1x1x4x2x128x64_S4x2x128x64 (v := u1) (pay4_val (src m 1 1 1)) (g := cM 1 1) rfl) $$ Hm1
  iintro Hm1
  unfold tk
  iapply (kv_send m κ 1 1 3 0 0 rfl rfl (n := ⟨k0_dev10, k0_dev10_lt 1 hc1⟩) (Fin.ext k0_dev10_eq) rfl rfl rfl rfl (O := kO 1 1 5) rfl) $$ [HO Hk3 Hd00 Ht00]
  · isplitr; · iexact HI
    isplitr [HO]
    · unfold kvRdy
      isplitl [Hk3]; · iexact Hk3
      isplitl [Hd00]; · iexact Hd00
      iexact Ht00
    iexact HO
  iintro ⟨HO, Hw00⟩
  iapply (kv_send m κ 1 1 3 0 1 rfl rfl (n := ⟨k0_dev11, k0_dev11_lt 1 hc1⟩) (Fin.ext k0_dev11_eq) rfl rfl rfl rfl (O := kO 1 1 4) rfl) $$ [HO Hv3 Hd01 Ht01]
  · isplitr; · iexact HI
    isplitr [HO]
    · unfold kvRdy
      isplitl [Hv3]; · iexact Hv3
      isplitl [Hd01]; · iexact Hd01
      iexact Ht01
    iexact HO
  iintro ⟨HO, Hw01⟩
  iapply (kv_send m κ 1 1 0 1 0 rfl rfl (n := ⟨k0_dev12, k0_dev12_lt 1 hc1⟩) (Fin.ext k0_dev12_eq) rfl rfl rfl rfl (O := kO 1 1 3) rfl) $$ [HO Hk0 Hd10 Ht10]
  · isplitr; · iexact HI
    isplitr [HO]
    · unfold kvRdy
      isplitl [Hk0]; · iexact Hk0
      isplitl [Hd10]; · iexact Hd10
      iexact Ht10
    iexact HO
  iintro ⟨HO, Hw10⟩
  iapply (kv_send m κ 1 1 0 1 1 rfl rfl (n := ⟨k0_dev13, k0_dev13_lt 1 hc1⟩) (Fin.ext k0_dev13_eq) rfl rfl rfl rfl (O := kO 1 1 2) rfl) $$ [HO Hv0 Hd11 Ht11]
  · isplitr; · iexact HI
    isplitr [HO]
    · unfold kvRdy
      isplitl [Hv0]; · iexact Hv0
      isplitl [Hd11]; · iexact Hd11
      iexact Ht11
    iexact HO
  iintro ⟨HO, Hw11⟩
  iapply (kv_send m κ 1 1 2 2 0 rfl rfl (n := ⟨k0_dev14, k0_dev14_lt 1 hc1⟩) (Fin.ext k0_dev14_eq) rfl rfl rfl rfl (O := kO 1 1 1) rfl) $$ [HO Hk2 Hd20 Ht20]
  · isplitr; · iexact HI
    isplitr [HO]
    · unfold kvRdy
      isplitl [Hk2]; · iexact Hk2
      isplitl [Hd20]; · iexact Hd20
      iexact Ht20
    iexact HO
  iintro ⟨HO, Hw20⟩
  iapply (kv_send m κ 1 1 2 2 1 rfl rfl (n := ⟨k0_dev15, k0_dev15_lt 1 hc1⟩) (Fin.ext k0_dev15_eq) rfl rfl rfl rfl (O := kO 1 1 0) rfl) $$ [HO Hv2 Hd21 Ht21]
  · isplitr; · iexact HI
    isplitr [HO]
    · unfold kvRdy
      isplitl [Hv2]; · iexact Hv2
      isplitl [Hd21]; · iexact Hd21
      iexact Ht21
    iexact HO
  iintro ⟨HO, Hw21⟩
  iapply (ld_all 1 (M := Memref.whole cc0_stg0_0) hz3 (X := xS m 1)) $$ Hx
  iintro Hx
  rw [wp_ret]
  imodintro
  iapply HQ
  isplitl [HO]; · iexact HO
  isplitl [Hat]; · iexact Hat
  isplitl [Hs0 Hs1 Hs2]
  · isplitl [Hs0]; · iexact Hs0
    isplitl [Hs1] <;> iassumption
  isplitl [Hx]; · iexact Hx
  isplitl [Hk1 Hv1]
  · isplitl [Hk1] <;> iassumption
  isplitl [Hm0 Hm1]
  · isplitl [Hm0]; · iexact Hm0
    iexact Hm1
  isplitl [Hw00]; · iexact Hw00
  isplitl [Hw01]; · iexact Hw01
  isplitl [Hw10]; · iexact Hw10
  isplitl [Hw11]; · iexact Hw11
  isplitl [Hw20]; · iexact Hw20
  iexact Hw21

end Cert.KernelIdeal.Talk
-- ==== Proof.KI.Mid.lean ====
/- The wait for the pieces that come from others, and the loads of what was collected. -/
module

public import proofs.«01_k».proof.Proof.KI.Head

@[expose] public section

set_option maxHeartbeats 3000000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- A collected piece: here already on the device that supplies it, still to be waited for elsewhere. -/
def hold (c : Dev nD) (ch kv : Fin 2) : sProp 𝕄 :=
  if c = chD ch then iprop(owns (c : Thread nD τ) (cM ch kv) fullShare (src m kv c (chD ch)) ∗ dorm c (jr ch kv)) else wt c (jr ch kv)

/-- A collected piece in its place, its cell done with. -/
def got (c : Dev nD) (ch kv : Fin 2) : sProp 𝕄 :=
  iprop(owns (c : Thread nD τ) (cM ch kv) fullShare (src m kv c (chD ch)) ∗ semVal (oc c (jr ch kv)) 0)

theorem hold_own (c : Dev nD) (ch kv : Fin 2) (h : c = chD ch) : hold m c ch kv ⊢ got m c ch kv := by
  unfold hold got dorm; rw [if_pos h]
  iintro ⟨H, -, Hs⟩
  isplitl [H] <;> iassumption

theorem hold_ne (c : Dev nD) (ch kv : Fin 2) (h : c ≠ chD ch) : hold m c ch kv ⊢ wt c (jr ch kv) := by
  unfold hold; rw [if_neg h]

theorem lv_jr : ∀ ch kv : Fin 2, lv (((0 : Dev nD) : Thread nD τ), .dma (ow (jr ch kv))) () ≤ 2 := by decide

/-- A load of a piece named as a whole, what it reads known under another name. -/
theorem ld_x (c : Dev nD) {sh s' : Shape} {e : EltTy} {M : Memref sig .tc .vmem sh e} {r : Rect sh} {hr} {hq : r.shape.Squeezes s'}
    (hc : s'.ShapeCasts r.shape) (hc' : r.shape.ShapeCasts s') {hl : M.view.LoadsAt r.toLoadRect} {q : PosShare TreeShare} {v : s'.Idx → Elt F e}
    {g : Memref sig .tc .vmem s' e} (hg : g = (M.slice r hr).squeeze s' hq) {x : r.shape.Idx → Elt F e} (hx : shapeCast r.shape v hc = x)
    {α : Type} {Q : α → sProp 𝕄} {k : (r.shape.Idx → Elt F e) → Prog (TpuEff nD τ sig (Elt F) Λ₀ .tc) α} :
    owns (c : Thread nD τ) g q v
      ⊢ iprop((owns (c : Thread nD τ) g q v -∗ wp frame (wpE (defs₀ (F := F)) 𝒱₀ c none) Set.univ (k x) Q)
        -∗ wp frame (wpE (defs₀ (F := F)) 𝒱₀ c none) Set.univ (.op (.load M r.toLoadRect hl) k) Q) := by
  subst hx; exact ld_p c hc hc' hg

/-- The wait for one piece. -/
theorem wait_jr (κ : GSem nD τ sig → ℕ) (c : Dev nD) (ch kv : Fin 2) {s : DmaSem sig} (hs : s = ow (jr ch kv)) (hne : c ≠ chD ch)
    {a b : Memref sig .tc .vmem S4x2x128x64 .bf16} {h : a.view.WordExact} {h' : b.view.WordExact} (hb : b = cM ch kv)
    {α : Type} {Q : α → sProp 𝕄} {k : PUnit → Prog (TpuEff nD τ sig (Elt F) Λ₀ .tc) α} :
    iprop(recs m κ ∗ levAts L lv ∗ hold m c ch kv ∗ owe c (orO c))
      ⊢ iprop(((owe c (orO c) ∗ got m c ch kv) -∗ wp frame (wpE (defs₀ (F := F)) 𝒱₀ c none) Set.univ (k ⟨⟩) Q)
        -∗ wp frame (wpE (defs₀ (F := F)) 𝒱₀ c none) Set.univ (.op (.waitDma2 s a b h h') k) Q) := by
  subst hb
  iintro ⟨#HI, #Hlev, Hh, HO⟩ HQ
  ihave Hh := (hold_ne m c ch kv hne) $$ Hh
  iapply (wait_ow m κ c (jr ch kv) hs ((cM_amount ch kv (.dma (ow (jr ch kv)))).trans (amt_jr ch kv).symm) (orO_above c) (lv_jr ch kv)) $$ [Hh HO]
  · isplitr; · iexact HI
    isplitr; · iexact Hlev
    isplitl [Hh] <;> iassumption
  rw [owPay_jr]
  iintro ⟨HO, Hs, Hp⟩
  iapply HQ
  unfold got
  isplitl [HO]; · iexact HO
  isplitl [Hp] <;> iassumption

theorem p11_0 (κ : GSem nD τ sig → ℕ) {v25 : FVec F S256x512 .bf16} {Q : _ → sProp 𝕄} :
    iprop(recs m κ ∗ levAts L lv ∗ owe 0 (orO 0) ∗ owns ((0 : Dev nD) : Thread nD τ) (Memref.whole cc0_stg1_0) fullShare (wqS m 0)
        ∗ hold m 0 0 0 ∗ hold m 0 0 1 ∗ hold m 0 1 0 ∗ hold m 0 1 1)
      ⊢ iprop(((owe 0 (orO 0) ∗ owns ((0 : Dev nD) : Thread nD τ) (Memref.whole cc0_stg1_0) fullShare (wqS m 0)
            ∗ got m 0 0 0 ∗ got m 0 0 1 ∗ got m 0 1 0 ∗ got m 0 1 1)
          -∗ Q ⟨k0_pay6 v25 (wqS m 0), k0_pay7 (pc m 0 0 0) (pc m 1 0 0), k0_pay8 (pc m 0 1 0)⟩)
        -∗ wp frame (wpE (defs₀ (F := F)) 𝒱₀ ((0 : Dev nD) : Thread nD τ) none) Set.univ (P11 (F := F) (w2 0) v25) Q) := by
  have h0 : Scalar.cmpi .ne (Scalar.extui (Scalar.cmpi .eq (w2 0) 0#32)) 0#32 = 1#1 := by decide
  have h1 : ¬ Scalar.cmpi .ne (Scalar.extui (Scalar.cmpi .eq (w2 0) 1#32)) 0#32 = 1#1 := by decide
  have h2 : ¬ Scalar.cmpi .ne (Scalar.extui (Scalar.cmpi .sge (w2 0) 2#32)) 0#32 = 1#1 := by decide
  unfold P11
  simp only [k0_part11_eq_skeleton]; unfold k0_part11_skel
  simp only [Prog.lift, Prog.bind_op, Prog.bind_ret, Prog.pure_eq_ret, dif_pos h0, dif_neg h1, dif_neg h2]
  iintro ⟨#HI, #Hlev, HO, Hq, H00, H01, H10, H11⟩ HQ
  iapply (ld_all 0 (M := Memref.whole cc0_stg1_0) hz2 (X := wqS m 0)) $$ Hq
  iintro Hq
  ihave H00 := (hold_own m 0 0 0 rfl) $$ H00
  ihave H01 := (hold_own m 0 0 1 rfl) $$ H01
  iapply (wait_jr m κ 0 1 0 rfl (by decide) rfl) $$ [HO H10]
  · isplitr; · iexact HI
    isplitr; · iexact Hlev
    isplitl [H10] <;> iassumption
  iintro ⟨HO, H10⟩
  iapply (wait_jr m κ 0 1 1 rfl (by decide) rfl) $$ [HO H11]
  · isplitr; · iexact HI
    isplitr; · iexact Hlev
    isplitl [H11] <;> iassumption
  iintro ⟨HO, H11⟩
  unfold got
  icases H00 with ⟨H00, Hs00⟩
  icases H01 with ⟨H01, Hs01⟩
  icases H10 with ⟨H10, Hs10⟩
  icases H11 with ⟨H11, Hs11⟩
  iapply (ld_x 0 (M := Memref.whole cc0_scratch0) (r := Rect.unit (s := S2x2x4x2x128x64) ![0, 0, 0, 0, 0, 0] ![1, 1, 4, 2, 128, 64] inb_S2x2x4x2x128x64_S1x1x4x2x128x64_0_0_0_0_0_0) (hr := fun _ => rfl) (hq := squeezes_S1x1x4x2x128x64_S4x2x128x64)
    shapeCasts_S4x2x128x64_S1x1x4x2x128x64 shapeCasts_S1x1x4x2x128x64_S4x2x128x64 (v := src m 0 0 (chD 0)) (g := cM 0 0) rfl (x := pc m 0 0 0) rfl) $$ H00
  iintro H00
  iapply (ld_x 0 (M := Memref.whole cc0_scratch0) (r := Rect.unit (s := S2x2x4x2x128x64) ![1, 0, 0, 0, 0, 0] ![1, 1, 4, 2, 128, 64] inb_S2x2x4x2x128x64_S1x1x4x2x128x64_1_0_0_0_0_0) (hr := fun _ => rfl) (hq := squeezes_S1x1x4x2x128x64_S4x2x128x64)
    shapeCasts_S4x2x128x64_S1x1x4x2x128x64 shapeCasts_S1x1x4x2x128x64_S4x2x128x64 (v := src m 0 0 (chD 1)) (g := cM 1 0) rfl (x := pc m 1 0 0) rfl) $$ H10
  iintro H10
  iapply (ld_x 0 (M := Memref.whole cc0_scratch0) (r := Rect.unit (s := S2x2x4x2x128x64) ![0, 1, 0, 0, 0, 0] ![1, 1, 4, 2, 128, 64] inb_S2x2x4x2x128x64_S1x1x4x2x128x64_0_1_0_0_0_0) (hr := fun _ => rfl) (hq := squeezes_S1x1x4x2x128x64_S4x2x128x64)
    shapeCasts_S4x2x128x64_S1x1x4x2x128x64 shapeCasts_S1x1x4x2x128x64_S4x2x128x64 (v := src m 1 0 (chD 0)) (g := cM 0 1) rfl (x := pc m 0 1 0) rfl) $$ H01
  iintro H01
  rw [wp_ret]
  imodintro
  iapply HQ
  isplitl [HO]; · iexact HO
  isplitl [Hq]; · iexact Hq
  isplitl [H00 Hs00]; · isplitl [H00] <;> iassumption
  isplitl [H01 Hs01]; · isplitl [H01] <;> iassumption
  isplitl [H10 Hs10]; · isplitl [H10] <;> iassumption
  isplitl [H11] <;> iassumption

theorem p11_1 (κ : GSem nD τ sig → ℕ) {v25 : FVec F S256x512 .bf16} {Q : _ → sProp 𝕄} :
    iprop(recs m κ ∗ levAts L lv ∗ owe 1 (orO 1) ∗ owns ((1 : Dev nD) : Thread nD τ) (Memref.whole cc0_stg1_0) fullShare (wqS m 1)
        ∗ hold m 1 0 0 ∗ hold m 1 0 1 ∗ hold m 1 1 0 ∗ hold m 1 1 1)
      ⊢ iprop(((owe 1 (orO 1) ∗ owns ((1 : Dev nD) : Thread nD τ) (Memref.whole cc0_stg1_0) fullShare (wqS m 1)
            ∗ got m 1 0 0 ∗ got m 1 0 1 ∗ got m 1 1 0 ∗ got m 1 1 1)
          -∗ Q ⟨k0_pay6 v25 (wqS m 1), k0_pay7 (pc m 0 0 1) (pc m 1 0 1), k0_pay8 (pc m 0 1 1)⟩)
        -∗ wp frame (wpE (defs₀ (F := F)) 𝒱₀ ((1 : Dev nD) : Thread nD τ) none) Set.univ (P11 (F := F) (w2 1) v25) Q) := by
  have h0 : ¬ Scalar.cmpi .ne (Scalar.extui (Scalar.cmpi .eq (w2 1) 0#32)) 0#32 = 1#1 := by decide
  have h1 : Scalar.cmpi .ne (Scalar.extui (Scalar.cmpi .eq (w2 1) 1#32)) 0#32 = 1#1 := by decide
  have h2 : ¬ Scalar.cmpi .ne (Scalar.extui (Scalar.cmpi .sge (w2 1) 2#32)) 0#32 = 1#1 := by decide
  unfold P11
  simp only [k0_part11_eq_skeleton]; unfold k0_part11_skel
  simp only [Prog.lift, Prog.bind_op, Prog.bind_ret, Prog.pure_eq_ret, dif_neg h0, dif_pos h1, dif_neg h2]
  iintro ⟨#HI, #Hlev, HO, Hq, H00, H01, H10, H11⟩ HQ
  iapply (ld_all 1 (M := Memref.whole cc0_stg1_0) hz2 (X := wqS m 1)) $$ Hq
  iintro Hq
  ihave H10 := (hold_own m 1 1 0 rfl) $$ H10
  ihave H11 := (hold_own m 1 1 1 rfl) $$ H11
  iapply (wait_jr m κ 1 0 0 rfl (by decide) rfl) $$ [HO H00]
  · isplitr; · iexact HI
    isplitr; · iexact Hlev
    isplitl [H00] <;> iassumption
  iintro ⟨HO, H00⟩
  iapply (wait_jr m κ 1 0 1 rfl (by decide) rfl) $$ [HO H01]
  · isplitr; · iexact HI
    isplitr; · iexact Hlev
    isplitl [H01] <;> iassumption
  iintro ⟨HO, H01⟩
  unfold got
  icases H00 with ⟨H00, Hs00⟩
  icases H01 with ⟨H01, Hs01⟩
  icases H10 with ⟨H10, Hs10⟩
  icases H11 with ⟨H11, Hs11⟩
  iapply (ld_x 1 (M := Memref.whole cc0_scratch0) (r := Rect.unit (s := S2x2x4x2x128x64) ![0, 0, 0, 0, 0, 0] ![1, 1, 4, 2, 128, 64] inb_S2x2x4x2x128x64_S1x1x4x2x128x64_0_0_0_0_0_0) (hr := fun _ => rfl) (hq := squeezes_S1x1x4x2x128x64_S4x2x128x64)
    shapeCasts_S4x2x128x64_S1x1x4x2x128x64 shapeCasts_S1x1x4x2x128x64_S4x2x128x64 (v := src m 0 1 (chD 0)) (g := cM 0 0) rfl (x := pc m 0 0 1) rfl) $$ H00
  iintro H00
  iapply (ld_x 1 (M := Memref.whole cc0_scratch0) (r := Rect.unit (s := S2x2x4x2x128x64) ![1, 0, 0, 0, 0, 0] ![1, 1, 4, 2, 128, 64] inb_S2x2x4x2x128x64_S1x1x4x2x128x64_1_0_0_0_0_0) (hr := fun _ => rfl) (hq := squeezes_S1x1x4x2x128x64_S4x2x128x64)
    shapeCasts_S4x2x128x64_S1x1x4x2x128x64 shapeCasts_S1x1x4x2x128x64_S4x2x128x64 (v := src m 0 1 (chD 1)) (g := cM 1 0) rfl (x := pc m 1 0 1) rfl) $$ H10
  iintro H10
  iapply (ld_x 1 (M := Memref.whole cc0_scratch0) (r := Rect.unit (s := S2x2x4x2x128x64) ![0, 1, 0, 0, 0, 0] ![1, 1, 4, 2, 128, 64] inb_S2x2x4x2x128x64_S1x1x4x2x128x64_0_1_0_0_0_0) (hr := fun _ => rfl) (hq := squeezes_S1x1x4x2x128x64_S4x2x128x64)
    shapeCasts_S4x2x128x64_S1x1x4x2x128x64 shapeCasts_S1x1x4x2x128x64_S4x2x128x64 (v := src m 1 1 (chD 0)) (g := cM 0 1) rfl (x := pc m 0 1 1) rfl) $$ H01
  iintro H01
  rw [wp_ret]
  imodintro
  iapply HQ
  isplitl [HO]; · iexact HO
  isplitl [Hq]; · iexact Hq
  isplitl [H00 Hs00]; · isplitl [H00] <;> iassumption
  isplitl [H01 Hs01]; · isplitl [H01] <;> iassumption
  isplitl [H10 Hs10]; · isplitl [H10] <;> iassumption
  isplitl [H11] <;> iassumption

theorem p11_rest (κ : GSem nD τ sig → ℕ) (c : Dev nD) (hc : 2 ≤ c.val) {v25 : FVec F S256x512 .bf16} {Q : _ → sProp 𝕄} :
    iprop(recs m κ ∗ levAts L lv ∗ owe c (orO c) ∗ owns (c : Thread nD τ) (Memref.whole cc0_stg1_0) fullShare (wqS m c)
        ∗ hold m c 0 0 ∗ hold m c 0 1 ∗ hold m c 1 0 ∗ hold m c 1 1)
      ⊢ iprop(((owe c (orO c) ∗ owns (c : Thread nD τ) (Memref.whole cc0_stg1_0) fullShare (wqS m c)
            ∗ got m c 0 0 ∗ got m c 0 1 ∗ got m c 1 0 ∗ got m c 1 1)
          -∗ Q ⟨k0_pay6 v25 (wqS m c), k0_pay7 (pc m 0 0 c) (pc m 1 0 c), k0_pay8 (pc m 0 1 c)⟩)
        -∗ wp frame (wpE (defs₀ (F := F)) 𝒱₀ (c : Thread nD τ) none) Set.univ (P11 (F := F) (w2 c) v25) Q) := by
  have h0 : ¬ Scalar.cmpi .ne (Scalar.extui (Scalar.cmpi .eq (w2 c) 0#32)) 0#32 = 1#1 := by revert c; decide
  have h1 : ¬ Scalar.cmpi .ne (Scalar.extui (Scalar.cmpi .eq (w2 c) 1#32)) 0#32 = 1#1 := by revert c; decide
  have h2 : Scalar.cmpi .ne (Scalar.extui (Scalar.cmpi .sge (w2 c) 2#32)) 0#32 = 1#1 := by revert c; decide
  unfold P11
  simp only [k0_part11_eq_skeleton]; unfold k0_part11_skel
  simp only [Prog.lift, Prog.bind_op, Prog.bind_ret, Prog.pure_eq_ret, dif_neg h0, dif_neg h1, dif_pos h2, k0_part7_eq_skeleton, k0_part7_skel]
  iintro ⟨#HI, #Hlev, HO, Hq, H00, H01, H10, H11⟩ HQ
  iapply (ld_all c (M := Memref.whole cc0_stg1_0) hz2 (X := wqS m c)) $$ Hq
  iintro Hq
  iapply (wait_jr m κ c 0 0 rfl (by revert c; decide) rfl) $$ [HO H00]
  · isplitr; · iexact HI
    isplitr; · iexact Hlev
    isplitl [H00] <;> iassumption
  iintro ⟨HO, H00⟩
  iapply (wait_jr m κ c 0 1 rfl (by revert c; decide) rfl) $$ [HO H01]
  · isplitr; · iexact HI
    isplitr; · iexact Hlev
    isplitl [H01] <;> iassumption
  iintro ⟨HO, H01⟩
  iapply (wait_jr m κ c 1 0 rfl (by revert c; decide) rfl) $$ [HO H10]
  · isplitr; · iexact HI
    isplitr; · iexact Hlev
    isplitl [H10] <;> iassumption
  iintro ⟨HO, H10⟩
  iapply (wait_jr m κ c 1 1 rfl (by revert c; decide) rfl) $$ [HO H11]
  · isplitr; · iexact HI
    isplitr; · iexact Hlev
    isplitl [H11] <;> iassumption
  iintro ⟨HO, H11⟩
  unfold got
  icases H00 with ⟨H00, Hs00⟩
  icases H01 with ⟨H01, Hs01⟩
  icases H10 with ⟨H10, Hs10⟩
  icases H11 with ⟨H11, Hs11⟩
  iapply (ld_x c (M := Memref.whole cc0_scratch0) (r := Rect.unit (s := S2x2x4x2x128x64) ![0, 0, 0, 0, 0, 0] ![1, 1, 4, 2, 128, 64] inb_S2x2x4x2x128x64_S1x1x4x2x128x64_0_0_0_0_0_0) (hr := fun _ => rfl) (hq := squeezes_S1x1x4x2x128x64_S4x2x128x64)
    shapeCasts_S4x2x128x64_S1x1x4x2x128x64 shapeCasts_S1x1x4x2x128x64_S4x2x128x64 (v := src m 0 c (chD 0)) (g := cM 0 0) rfl (x := pc m 0 0 c) rfl) $$ H00
  iintro H00
  iapply (ld_x c (M := Memref.whole cc0_scratch0) (r := Rect.unit (s := S2x2x4x2x128x64) ![1, 0, 0, 0, 0, 0] ![1, 1, 4, 2, 128, 64] inb_S2x2x4x2x128x64_S1x1x4x2x128x64_1_0_0_0_0_0) (hr := fun _ => rfl) (hq := squeezes_S1x1x4x2x128x64_S4x2x128x64)
    shapeCasts_S4x2x128x64_S1x1x4x2x128x64 shapeCasts_S1x1x4x2x128x64_S4x2x128x64 (v := src m 0 c (chD 1)) (g := cM 1 0) rfl (x := pc m 1 0 c) rfl) $$ H10
  iintro H10
  iapply (ld_x c (M := Memref.whole cc0_scratch0) (r := Rect.unit (s := S2x2x4x2x128x64) ![0, 1, 0, 0, 0, 0] ![1, 1, 4, 2, 128, 64] inb_S2x2x4x2x128x64_S1x1x4x2x128x64_0_1_0_0_0_0) (hr := fun _ => rfl) (hq := squeezes_S1x1x4x2x128x64_S4x2x128x64)
    shapeCasts_S4x2x128x64_S1x1x4x2x128x64 shapeCasts_S1x1x4x2x128x64_S4x2x128x64 (v := src m 1 c (chD 0)) (g := cM 0 1) rfl (x := pc m 0 1 c) rfl) $$ H01
  iintro H01
  rw [wp_ret]
  imodintro
  iapply HQ
  isplitl [HO]; · iexact HO
  isplitl [Hq]; · iexact Hq
  isplitl [H00 Hs00]; · isplitl [H00] <;> iassumption
  isplitl [H01 Hs01]; · isplitl [H01] <;> iassumption
  isplitl [H10 Hs10]; · isplitl [H10] <;> iassumption
  isplitl [H11] <;> iassumption

end Cert.KernelIdeal.Talk
-- ==== Proof.KI.Tail.lean ====
/- The parts: computed, stored, sent to every peer, waited for, and summed. -/
module

public import proofs.«01_k».proof.Proof.KI.Mid

@[expose] public section

set_option maxHeartbeats 3000000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev P12 := k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P13 := k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P14 := k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5
abbrev P15 := k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5

theorem prt_part (c : Dev nD) : shapeCast S1x2x128x512 (prt m c) shapeCasts_S2x128x512_S1x2x128x512 = part m c := by
  unfold prt; rw [shapeCast_shapeCast]

theorem above_zero (n : ℕ) : Above n (0 : CellTallies nD τ sig Unit) := fun g u h => absurd h (Nat.lt_irrefl 0)
theorem lv_ji : ∀ k : Fin 3, lv (((0 : Dev nD) : Thread nD τ), .dma (ow (ji k))) () ≤ 3 := by decide
theorem lv_jo : ∀ k : Fin 3, lv (((0 : Dev nD) : Thread nD τ), .dma (ow (jo k))) () ≤ 3 := by decide
theorem lv_js : ∀ (i : Fin 3) (kv : Fin 2), lv (((0 : Dev nD) : Thread nD τ), .dma (ow (js i kv))) () ≤ 3 := by decide

/-- The wait for the part that comes from direction `k`. -/
theorem wait_ji (κ : GSem nD τ sig → ℕ) (c : Dev nD) (k' : Fin 3) {s : DmaSem sig} (hs : s = ow (ji k'))
    {a b : Memref sig .tc .vmem S2x128x512 .bf16} {h : a.view.WordExact} {h' : b.view.WordExact} {t : Fin 4} (hb : b = oM t) {g : Memref sig .tc .vmem S2x128x512 .bf16} (hg : g = oM k'.succ)
    {α : Type} {Q : α → sProp 𝕄} {k : PUnit → Prog (TpuEff nD τ sig (Elt F) Λ₀ .tc) α} :
    iprop(recs m κ ∗ levAts L lv ∗ wt c (ji k') ∗ owe c 0)
      ⊢ iprop(((owe c 0 ∗ semVal (oc c (ji k')) 0 ∗ owns (c : Thread nD τ) g fullShare (prt m (fr k' c))) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s a b h h') k) Q) := by
  subst hb hg
  rw [← owPay_ji]
  exact wait_ow m κ c (ji k') hs ((oM_amount t).trans (amt_ji k').symm) (above_zero 3) (lv_ji k')

/-- The wait for the send in direction `k`. -/
theorem wait_jo (κ : GSem nD τ sig → ℕ) (c : Dev nD) (k' : Fin 3) {s : DmaSem sig} (hs : s = ow (jo k'))
    {a b : Memref sig .tc .vmem S2x128x512 .bf16} {h : a.view.WordExact} {h' : b.view.WordExact} {t : Fin 4} (hb : b = oM t)
    {α : Type} {Q : α → sProp 𝕄} {k : PUnit → Prog (TpuEff nD τ sig (Elt F) Λ₀ .tc) α} :
    iprop(recs m κ ∗ levAts L lv ∗ wt c (jo k') ∗ owe c 0)
      ⊢ iprop(((owe c 0 ∗ semVal (oc c (jo k')) 0 ∗ owns (c : Thread nD τ) (oM 0) (Ring.shares3 fullShare.right k') (prt m c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s a b h h') k) Q) := by
  subst hb
  rw [← owPay_jo]
  exact wait_ow m κ c (jo k') hs ((oM_amount t).trans (amt_jo k').symm) (above_zero 3) (lv_jo k')

/-- The wait for a send of keys or values. -/
theorem wait_js (κ : GSem nD τ sig → ℕ) (c t : Dev nD) (i : Fin 3) (kv : Fin 2) {s : DmaSem sig} (hs : s = ow (js i kv)) (ht : toD (Fin.rev i) c = t)
    {a b : Memref sig .tc .vmem S4x2x128x64 .bf16} {h : a.view.WordExact} {h' : b.view.WordExact} {ch kv' : Fin 2} (hb : b = cM ch kv')
    {α : Type} {Q : α → sProp 𝕄} {k : PUnit → Prog (TpuEff nD τ sig (Elt F) Λ₀ .tc) α} :
    iprop(recs m κ ∗ levAts L lv ∗ wt c (js i kv) ∗ owe c 0)
      ⊢ iprop(((owe c 0 ∗ semVal (oc c (js i kv)) 0 ∗ owns (c : Thread nD τ) (gM kv t) fullShare (src m kv t c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s a b h h') k) Q) := by
  subst hb ht
  rw [← owPay_js]
  exact wait_ow m κ c (js i kv) hs ((cM_amount ch kv' (.dma (ow (js i kv)))).trans (amt_js i kv).symm) (above_zero 3) (lv_js i kv)

theorem p12 (c : Dev nD) {Q : _ → sProp 𝕄} :
    iprop(owns (c : Thread nD τ) (cM 1 1) fullShare (src m 1 c (chD 1)) ∗ owns (c : Thread nD τ) (Memref.whole cc0_stg4_0) fullShare (woS m c) ∗ any c (oM 0))
      ⊢ iprop(((owns (c : Thread nD τ) (cM 1 1) fullShare (src m 1 c (chD 1)) ∗ owns (c : Thread nD τ) (Memref.whole cc0_stg4_0) fullShare (woS m c)
            ∗ owns (c : Thread nD τ) (oM 0) fullShare (prt m c)) -∗ Q (1#32 : BitVec 32))
        -∗ wp frame (wpE (defs₀ (F := F)) 𝒱₀ (c : Thread nD τ) none) Set.univ (P12 (F := F) (k0_pay6 (k0_pay5 (xS m c)) (wqS m c)) (k0_pay7 (pc m 0 0 c) (pc m 1 0 c)) (k0_pay8 (pc m 0 1 c))) Q) := by
  unfold P12 any
  simp only [k0_part12_eq_skeleton]; unfold k0_part12_skel
  simp only [Prog.lift, Prog.bind_op, Prog.bind_ret, Prog.pure_eq_ret]
  iintro ⟨Hv, Hw, ⟨%u, Ho⟩⟩ HQ
  iapply (ld_x c (M := Memref.whole cc0_scratch0) (r := Rect.unit (s := S2x2x4x2x128x64) ![1, 1, 0, 0, 0, 0] ![1, 1, 4, 2, 128, 64] inb_S2x2x4x2x128x64_S1x1x4x2x128x64_1_1_0_0_0_0) (hr := fun _ => rfl) (hq := squeezes_S1x1x4x2x128x64_S4x2x128x64)
    shapeCasts_S4x2x128x64_S1x1x4x2x128x64 shapeCasts_S1x1x4x2x128x64_S4x2x128x64 (v := src m 1 c (chD 1)) (g := cM 1 1) rfl (x := pc m 1 1 c) rfl) $$ Hv
  iintro Hv
  iapply (ld_all c (M := Memref.whole cc0_stg4_0) hz2 (X := woS m c)) $$ Hw
  iintro Hw
  iapply (ld_p c (M := Memref.whole cc0_scratch1) (r := Rect.unit (s := S4x2x128x512) ![0, 0, 0, 0] ![1, 2, 128, 512] inb_S4x2x128x512_S1x2x128x512_0_0_0_0) (hr := fun _ => rfl) (hq := squeezes_S1x2x128x512_S2x128x512)
    shapeCasts_S2x128x512_S1x2x128x512 shapeCasts_S1x2x128x512_S2x128x512 (v := u) (g := oM 0) rfl) $$ Ho
  iintro Ho
  iapply (st_p c (M := Memref.whole cc0_scratch1) (r := Rect.unit (s := S4x2x128x512) ![0, 0, 0, 0] ![1, 2, 128, 512] inb_S4x2x128x512_S1x2x128x512_0_0_0_0) (hr := fun _ => rfl) (hq := squeezes_S1x2x128x512_S2x128x512)
    shapeCasts_S1x2x128x512_S2x128x512 (v := u) (x := prt m c) rfl (g := oM 0) rfl) $$ Ho
  iintro Ho
  rw [wp_ret]
  imodintro
  iapply HQ
  isplitl [Hv]; · iexact Hv
  isplitl [Hw] <;> iassumption

/-- The slot at the peer, the send's own cell, and the tokens of the send. -/
def ps (c : Dev nD) (k : Fin 3) : sProp 𝕄 :=
  iprop(slot c k ∗ dorm c (jo k) ∗ dutyTok ER (oc c (jo k)) 0 0 ∗ dutyTok ER (oc (toD k c) (ji k)) 0 0)
theorem ps_eq (c : Dev nD) (k : Fin 3) : ps (F := F) c k = ptRdy c k := rfl

def rO1 (c : Dev nD) : CellTallies nD τ sig Unit := tallyAt (oc (toD 1 c) (ji 1)) () N₂
def rO2 (c : Dev nD) : CellTallies nD τ sig Unit := rO1 c + tallyAt (oc (toD 0 c) (ji 0)) () N₂

theorem dev16_eq (c : Dev nD) : (⟨k0_dev16 c, k0_dev16_lt c⟩ : Dev nD) = toD 2 c := Fin.ext (k0_dev16_eq c)
theorem dev17_eq (c : Dev nD) : (⟨k0_dev17 c, k0_dev17_lt c⟩ : Dev nD) = toD 0 c := Fin.ext (k0_dev17_eq c)
theorem dev18_eq (c : Dev nD) : (⟨k0_dev18 c, k0_dev18_lt c⟩ : Dev nD) = toD 1 c := Fin.ext (k0_dev18_eq c)

theorem p13 (κ : GSem nD τ sig → ℕ) (c : Dev nD) (a5 a7 a9 a1 : BitVec 32) {Q : PUnit → sProp 𝕄} :
    iprop(recs m κ ∗ owe c (orO c) ∗ (owns (c : Thread nD τ) (oM 0) (Ring.shares3 fullShare.right 2) (prt m c) ∗ ptRdy c 2)
        ∗ owns (c : Thread nD τ) (oM 0) (Ring.shares3 fullShare.right 0) (prt m c) ∗ ptRdy c 0)
      ⊢ iprop(((owe c (rO1 c) ∗ wt c (jo 2) ∗ wt c (jo 0)) -∗ Q ⟨⟩) -∗ wp frame (wpE (defs₀ (F := F)) 𝒱₀ (c : Thread nD τ) none) Set.univ (P13 (F := F) c a5 a7 a9 a1) Q) := by
  unfold P13
  simp only [k0_part13_eq_skeleton]; unfold k0_part13_skel
  simp only [Prog.lift, Prog.bind_op, Prog.bind_ret, Prog.pure_eq_ret]
  iintro ⟨#HI, HO, ⟨H2, Hr2⟩, H0, Hr0⟩ HQ
  iapply (pt_send m κ c 2 (n := ⟨k0_dev16 c, k0_dev16_lt c⟩) (dev16_eq c) rfl rfl rfl rfl (O := rO2 c) rfl) $$ [HO H2 Hr2]
  · isplitr; · iexact HI
    isplitl [H2]; · iexact H2
    isplitl [Hr2]; · iexact Hr2
    iexact HO
  iintro ⟨HO, Hw2⟩
  iapply (pt_send m κ c 0 (n := ⟨k0_dev17 c, k0_dev17_lt c⟩) (dev17_eq c) rfl rfl rfl rfl (O := rO1 c) rfl) $$ [HO H0 Hr0]
  · isplitr; · iexact HI
    isplitl [H0]; · iexact H0
    isplitl [Hr0]; · iexact Hr0
    iexact HO
  iintro ⟨HO, Hw0⟩
  rw [wp_ret]
  imodintro
  iapply HQ
  isplitl [HO]; · iexact HO
  isplitl [Hw2] <;> iassumption

theorem p14 (κ : GSem nD τ sig → ℕ) (c : Dev nD) (a5 a7 a9 : BitVec 32) {Q : PUnit → sProp 𝕄} :
    iprop(recs m κ ∗ levAts L lv ∗ owe c (rO1 c) ∗ (owns (c : Thread nD τ) (oM 0) (Ring.shares3 fullShare.right 1) (prt m c) ∗ ptRdy c 1) ∗ wt c (ji 0) ∗ wt c (ji 1))
      ⊢ iprop(((owe c 0 ∗ wt c (jo 1) ∗ (semVal (oc c (ji 0)) 0 ∗ owns (c : Thread nD τ) (oM 1) fullShare (prt m (fr 0 c)))
            ∗ semVal (oc c (ji 1)) 0 ∗ owns (c : Thread nD τ) (oM 2) fullShare (prt m (fr 1 c))) -∗ Q ⟨⟩) -∗ wp frame (wpE (defs₀ (F := F)) 𝒱₀ (c : Thread nD τ) none) Set.univ (P14 (F := F) c a5 a7 a9) Q) := by
  unfold P14
  simp only [k0_part14_eq_skeleton]; unfold k0_part14_skel
  simp only [Prog.lift, Prog.bind_op, Prog.bind_ret, Prog.pure_eq_ret]
  iintro ⟨#HI, #Hlev, HO, ⟨H1, Hr1⟩, Hi0, Hi1⟩ HQ
  iapply (pt_send m κ c 1 (n := ⟨k0_dev18 c, k0_dev18_lt c⟩) (dev18_eq c) rfl rfl rfl rfl (O := 0) (zero_add _).symm) $$ [HO H1 Hr1]
  · isplitr; · iexact HI
    isplitl [H1]; · iexact H1
    isplitl [Hr1]; · iexact Hr1
    iexact HO
  iintro ⟨HO, Hw1⟩
  iapply (wait_ji m κ c 0 rfl (t := 1) rfl (g := oM 1) rfl) $$ [HO Hi0]
  · isplitr; · iexact HI
    isplitr; · iexact Hlev
    isplitl [Hi0] <;> iassumption
  iintro ⟨HO, Hp0⟩
  iapply (wait_ji m κ c 1 rfl (t := 2) rfl (g := oM 2) rfl) $$ [HO Hi1]
  · isplitr; · iexact HI
    isplitr; · iexact Hlev
    isplitl [Hi1] <;> iassumption
  iintro ⟨HO, Hp1⟩
  rw [wp_ret]
  imodintro
  iapply HQ
  isplitl [HO]; · iexact HO
  isplitl [Hw1]; · iexact Hw1
  isplitl [Hp0]; · iexact Hp0
  iexact Hp1

theorem p15 (κ : GSem nD τ sig → ℕ) (c : Dev nD) {Q : PUnit → sProp 𝕄} :
    iprop(recs m κ ∗ levAts L lv ∗ owe c 0 ∗ wt c (ji 2) ∗ owns (c : Thread nD τ) (oM 0) fullShare.left (prt m c)
        ∗ owns (c : Thread nD τ) (oM 1) fullShare (prt m (fr 0 c)) ∗ owns (c : Thread nD τ) (oM 2) fullShare (prt m (fr 1 c)) ∗ any c (Memref.whole cc0_stg5_0))
      ⊢ iprop(((owe c 0 ∗ semVal (oc c (ji 2)) 0 ∗ owns (c : Thread nD τ) (oM 0) fullShare.left (prt m c) ∗ owns (c : Thread nD τ) (oM 1) fullShare (prt m (fr 0 c))
            ∗ owns (c : Thread nD τ) (oM 2) fullShare (prt m (fr 1 c)) ∗ owns (c : Thread nD τ) (oM 3) fullShare (prt m (fr 2 c))
            ∗ owns (c : Thread nD τ) (Memref.whole cc0_stg5_0) fullShare (outS m c)) -∗ Q ⟨⟩) -∗ wp frame (wpE (defs₀ (F := F)) 𝒱₀ (c : Thread nD τ) none) Set.univ (P15 (F := F)) Q) := by
  unfold P15 any
  simp only [k0_part15_eq_skeleton]; unfold k0_part15_skel
  simp only [Prog.lift, Prog.bind_op, Prog.bind_ret, Prog.pure_eq_ret]
  iintro ⟨#HI, #Hlev, HO, Hi2, H0, H1, H2, ⟨%u, Hu⟩⟩ HQ
  iapply (wait_ji m κ c 2 rfl (t := 3) rfl (g := oM 3) rfl) $$ [HO Hi2]
  · isplitr; · iexact HI
    isplitr; · iexact Hlev
    isplitl [Hi2] <;> iassumption
  iintro ⟨HO, Hs2, H3⟩
  iapply (ld_x c (M := Memref.whole cc0_scratch1) (r := Rect.unit (s := S4x2x128x512) ![0, 0, 0, 0] ![1, 2, 128, 512] inb_S4x2x128x512_S1x2x128x512_0_0_0_0) (hr := fun _ => rfl) (hq := squeezes_S1x2x128x512_S2x128x512)
    shapeCasts_S2x128x512_S1x2x128x512 shapeCasts_S1x2x128x512_S2x128x512 (v := prt m c) (g := oM 0) rfl (x := part m c) (prt_part m c)) $$ H0
  iintro H0
  iapply (ld_x c (M := Memref.whole cc0_scratch1) (r := Rect.unit (s := S4x2x128x512) ![1, 0, 0, 0] ![1, 2, 128, 512] inb_S4x2x128x512_S1x2x128x512_1_0_0_0) (hr := fun _ => rfl) (hq := squeezes_S1x2x128x512_S2x128x512)
    shapeCasts_S2x128x512_S1x2x128x512 shapeCasts_S1x2x128x512_S2x128x512 (v := prt m (fr 0 c)) (g := oM 1) rfl (x := part m (fr 0 c)) (prt_part m (fr 0 c))) $$ H1
  iintro H1
  iapply (ld_x c (M := Memref.whole cc0_scratch1) (r := Rect.unit (s := S4x2x128x512) ![2, 0, 0, 0] ![1, 2, 128, 512] inb_S4x2x128x512_S1x2x128x512_2_0_0_0) (hr := fun _ => rfl) (hq := squeezes_S1x2x128x512_S2x128x512)
    shapeCasts_S2x128x512_S1x2x128x512 shapeCasts_S1x2x128x512_S2x128x512 (v := prt m (fr 1 c)) (g := oM 2) rfl (x := part m (fr 1 c)) (prt_part m (fr 1 c))) $$ H2
  iintro H2
  iapply (ld_x c (M := Memref.whole cc0_scratch1) (r := Rect.unit (s := S4x2x128x512) ![3, 0, 0, 0] ![1, 2, 128, 512] inb_S4x2x128x512_S1x2x128x512_3_0_0_0) (hr := fun _ => rfl) (hq := squeezes_S1x2x128x512_S2x128x512)
    shapeCasts_S2x128x512_S1x2x128x512 shapeCasts_S1x2x128x512_S2x128x512 (v := prt m (fr 2 c)) (g := oM 3) rfl (x := part m (fr 2 c)) (prt_part m (fr 2 c))) $$ H3
  iintro H3
  iapply (ld_all c (M := Memref.whole cc0_stg5_0) hz3 (X := u)) $$ Hu
  iintro Hu
  iapply (st_all c (M := Memref.whole cc0_stg5_0) hz3 (X := u)) $$ Hu
  iintro Hu
  rw [wp_ret]
  imodintro
  iapply HQ
  isplitl [HO]; · iexact HO
  isplitl [Hs2]; · iexact Hs2
  isplitl [H0]; · iexact H0
  isplitl [H1]; · iexact H1
  isplitl [H2]; · iexact H2
  isplitl [H3]; · iexact H3
  iexact Hu

end Cert.KernelIdeal.Talk
-- ==== Proof.KI.Body.lean ====
/- The whole body on each device, from what the launch hands it to what it leaves. -/
module

public import proofs.«01_k».proof.Proof.KI.Tail

@[expose] public section

set_option maxHeartbeats 3000000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev body := cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5

/-- The tokens of the sends of keys and values. -/
def kvT (ch : Fin 2) (c : Dev nD) (i : Fin 3) (kv : Fin 2) : sProp 𝕄 :=
  iprop(dutyTok ER (oc c (js i kv)) 0 0 ∗ dutyTok ER (oc (toD (Fin.rev i) c) (jr ch kv)) 0 0)
def kvTs (ch : Fin 2) (c : Dev nD) : sProp 𝕄 := iprop(kvT ch c 0 0 ∗ kvT ch c 0 1 ∗ kvT ch c 1 0 ∗ kvT ch c 1 1 ∗ kvT ch c 2 0 ∗ kvT ch c 2 1)
def kvToks (c : Dev nD) : sProp 𝕄 := if h : c.val < 2 then kvTs ⟨c.val, h⟩ c else iprop(emp)

/-- The credit for a landing of keys or values, where one is due. -/
def crd (c : Dev nD) (ch kv : Fin 2) : sProp 𝕄 :=
  if c = chD ch then iprop(emp) else cred (tallyAt (oc c (jr ch kv)) () (amt (jr ch kv)))

/-- The tokens and the credit of the exchange of parts in direction `k`. -/
def oT (c : Dev nD) (k : Fin 3) : sProp 𝕄 :=
  iprop(dutyTok ER (oc c (jo k)) 0 0 ∗ dutyTok ER (oc (toD k c) (ji k)) 0 0 ∗ cred (tallyAt (oc c (ji k)) () (amt (ji k))))

/-- Something at each of the kernel's own semaphores. -/
def every (P : Fin 18 → sProp 𝕄) : sProp 𝕄 :=
  iprop((P (jr 0 0) ∗ P (jr 0 1) ∗ P (jr 1 0) ∗ P (jr 1 1)) ∗ (P (js 0 0) ∗ P (js 0 1) ∗ P (js 1 0) ∗ P (js 1 1) ∗ P (js 2 0) ∗ P (js 2 1)) ∗ (P 10 ∗ P 11)
    ∗ (P (jo 0) ∗ P (jo 1) ∗ P (jo 2)) ∗ (P (ji 0) ∗ P (ji 1) ∗ P (ji 2)))

theorem own_hold (c : Dev nD) (ch kv : Fin 2) (h : c = chD ch) {o : Dev nD} (ho : o = chD ch) :
    iprop(owns (c : Thread nD τ) (cM ch kv) fullShare (src m kv o c) ∗ dorm c (jr ch kv)) ⊢ hold m c ch kv := by
  subst ho h; unfold hold; rw [if_pos rfl]

theorem wait_hold (c : Dev nD) (ch kv : Fin 2) (h : c ≠ chD ch) :
    iprop(crd c ch kv ∗ atPos ER (oc c (jr ch kv)) 0 ∅ 0) ⊢ hold m c ch kv := by
  unfold hold crd wt; rw [if_neg h, if_neg h]

theorem own_keep (c : Dev nD) (ch : Fin 2) (h : c = chD ch) : keep (F := F) c ch ⊢ iprop(seat c ch 0 ∗ seat c ch 1) := by
  subst h; rw [keep_own]
theorem ne_keep (c : Dev nD) (ch : Fin 2) (h : c ≠ chD ch) :
    keep (F := F) c ch ⊢ iprop(atPos ER (oc c (jr ch 0)) 0 ∅ 0 ∗ atPos ER (oc c (jr ch 1)) 0 ∅ 0) := by
  rw [keep_ne c ch h]
theorem toks_0 : kvToks (F := F) 0 ⊢ kvTs 0 0 := by unfold kvToks; rw [dif_pos (by decide)]; exact BIBase.Entails.rfl
theorem toks_1 : kvToks (F := F) 1 ⊢ kvTs 1 1 := by unfold kvToks; rw [dif_pos (by decide)]; exact BIBase.Entails.rfl

theorem slot_of (c : Dev nD) (k : Fin 3) : barPay (F := F) c k ⊢ slot c k := by rw [barPay_eq]; exact sep_elim_left

theorem any_of (c : Dev nD) {sp : Space} {sh : Shape} {e : EltTy} (M : Memref sig .tc sp sh e) (X : sh.Idx → Elt F e) :
    (owns (c : Thread nD τ) M fullShare X : sProp 𝕄) ⊢ any c M := by
  unfold any; iintro H; iexists X; iexact H

/-- The inputs in their staging buffers. -/
def ins (c : Dev nD) : sProp 𝕄 :=
  iprop(owns (c : Thread nD τ) (Memref.whole cc0_stg0_0) fullShare (xS m c) ∗ owns (c : Thread nD τ) (Memref.whole cc0_stg1_0) fullShare (wqS m c)
    ∗ owns (c : Thread nD τ) (wM 0) fullShare (kvS m 0 c) ∗ owns (c : Thread nD τ) (wM 1) fullShare (kvS m 1 c)
    ∗ owns (c : Thread nD τ) (Memref.whole cc0_stg4_0) fullShare (woS m c))

/-- What the body starts from beside the invariants. -/
def start (c : Dev nD) : sProp 𝕄 :=
  iprop(barIn c ∗ every (dorm c) ∗ kvToks c ∗ (crd c 0 0 ∗ crd c 0 1 ∗ crd c 1 0 ∗ crd c 1 1) ∗ (oT c 0 ∗ oT c 1 ∗ oT c 2))

theorem body_0 (κ : GSem nD τ sig → ℕ) {Q : PUnit → sProp 𝕄} :
    iprop(recs m κ ∗ levAts L lv ∗ owe 0 (O₀ 0) ∗ ins m 0 ∗ any 0 (Memref.whole cc0_stg5_0) ∗ any 0 sM ∗ any 0 pM ∗ start 0)
      ⊢ iprop(((owe 0 0 ∗ ins m 0 ∗ owns ((0 : Dev nD) : Thread nD τ) (Memref.whole cc0_stg5_0) fullShare (outS m 0) ∗ any 0 sM ∗ any 0 pM
            ∗ atPos ER (bc 0) (0 + 1) ∅ 0 ∗ every (fun j => semVal (oc 0 j) 0)) -∗ Q ⟨⟩)
        -∗ wp frame (wpE (defs₀ (F := F)) 𝒱₀ ((0 : Dev nD) : Thread nD τ) none) Set.univ (body (F := F)) Q) := by
  have h6 : Scalar.cmpi .ne (Scalar.extui (Scalar.cmpi .sle (w2 0) 1#32)) 0#32 = 1#1 := by decide
  unfold body ins start every barIn oT
  simp only [cc0_body_eq_skeleton]; unfold cc0_body_skel
  simp only [wp_bind]
  iintro ⟨#HI, #Hlev, HO, ⟨Hx, Hq, Hk, Hv, Hw⟩, Hu, Hs, Hp, Hb, ⟨⟨D00, D01, D10, D11⟩, ⟨E00, E01, E10, E11, E20, E21⟩, ⟨D10', D11'⟩, ⟨Do0, Do1, Do2⟩, ⟨Di0, Di1, Di2⟩⟩,
    HT, ⟨C00, C01, C10, C11⟩, ⟨⟨To0, Ti0, Ci0⟩, ⟨To1, Ti1, Ci1⟩, ⟨To2, Ti2, Ci2⟩⟩⟩ HQ
  ihave Hs := (places_split 0) $$ Hs
  icases Hs with ⟨S00, S01, S10, S11⟩
  ihave Hp := (slots_split 0) $$ Hp
  icases Hp with ⟨Hp0, Hp1, Hp2, Hp3⟩
  imod (give m κ 0) $$ [Hp1 Hp2 Hp3 Di0 Di1 Di2 S00 S01 S10 S11 D00 D01 D10 D11] with ⟨Hpay, ⟨Ai0, Ai1, Ai2⟩, K0, K1⟩
  · isplitr; · iexact HI
    isplitl [Hp1 Hp2 Hp3]
    · isplitl [Hp1]; · iexact Hp1
      isplitl [Hp2] <;> iassumption
    isplitl [Di0 Di1 Di2]
    · isplitl [Di0]; · iexact Di0
      isplitl [Di1] <;> iassumption
    unfold seat
    isplitl [S00 S01 D00 D01]
    · isplitl [S00 D00]
      · isplitl [S00] <;> iassumption
      isplitl [S01] <;> iassumption
    isplitl [S10 D10]
    · isplitl [S10] <;> iassumption
    isplitl [S11] <;> iassumption
  ihave K0 := (own_keep 0 0 rfl) $$ K0
  unfold seat
  icases K0 with ⟨⟨S00, D00⟩, ⟨S01, D01⟩⟩
  ihave K1 := (ne_keep 0 1 (by decide)) $$ K1
  icases K1 with ⟨A10, A11⟩
  ihave H10 := (wait_hold m 0 1 0 (by decide)) $$ [C10 A10]
  · isplitl [C10] <;> iassumption
  ihave H11 := (wait_hold m 0 1 1 (by decide)) $$ [C11 A11]
  · isplitl [C11] <;> iassumption
  ihave HT := toks_0 $$ HT
  unfold kvTs kvT
  icases HT with ⟨⟨Ta00, Tb00⟩, ⟨Ta01, Tb01⟩, ⟨Ta10, Tb10⟩, ⟨Ta11, Tb11⟩, ⟨Ta20, Tb20⟩, ⟨Ta21, Tb21⟩⟩
  iapply (p10_0 m κ) $$ [HO Hb Hpay Hx Hk Hv S00 S01 E00 Ta00 Tb00 E01 Ta01 Tb01 E10 Ta10 Tb10 E11 Ta11 Tb11 E20 Ta20 Tb20 E21 Ta21 Tb21]
  · isplitr; · iexact HI
    isplitr; · iexact Hlev
    isplitl [HO Hb Hpay]
    · unfold bar0 barIn
      isplitl [HO]; · iexact HO
      isplitl [Hb]; · iexact Hb
      iexact Hpay
    isplitl [Hx]; · iexact Hx
    isplitl [Hk]; · iexact Hk
    isplitl [Hv]; · iexact Hv
    isplitl [S00 S01]
    · isplitl [S00] <;> iassumption
    unfold tk
    isplitl [E00 Ta00 Tb00]
    · isplitl [E00]; · iexact E00
      isplitl [Ta00]; · iexact Ta00
      iexact Tb00
    isplitl [E01 Ta01 Tb01]
    · isplitl [E01]; · iexact E01
      isplitl [Ta01]; · iexact Ta01
      iexact Tb01
    isplitl [E10 Ta10 Tb10]
    · isplitl [E10]; · iexact E10
      isplitl [Ta10]; · iexact Ta10
      iexact Tb10
    isplitl [E11 Ta11 Tb11]
    · isplitl [E11]; · iexact E11
      isplitl [Ta11]; · iexact Ta11
      iexact Tb11
    isplitl [E20 Ta20 Tb20]
    · isplitl [E20]; · iexact E20
      isplitl [Ta20]; · iexact Ta20
      iexact Tb20
    isplitl [E21]; · iexact E21
    isplitl [Ta21]; · iexact Ta21
    iexact Tb21
  iintro ⟨HO, Hat, ⟨Hs0, Hs1, Hs2⟩, Hx, ⟨Gk, Gv⟩, ⟨S00, S01⟩, E00, E01, E10, E11, E20, E21⟩
  ihave H00 := (own_hold m 0 0 0 rfl rfl) $$ [S00 D00]
  · isplitl [S00]; · iexact S00
    iexact D00
  ihave H01 := (own_hold m 0 0 1 rfl rfl) $$ [S01 D01]
  · isplitl [S01]; · iexact S01
    iexact D01
  iapply (p11_0 m κ) $$ [HO Hq H00 H01 H10 H11]
  · isplitr; · iexact HI
    isplitr; · iexact Hlev
    isplitl [HO]; · iexact HO
    isplitl [Hq]; · iexact Hq
    isplitl [H00]; · iexact H00
    isplitl [H01]; · iexact H01
    isplitl [H10] <;> iassumption
  unfold got
  iintro ⟨HO, Hq, ⟨H00, Z00⟩, ⟨H01, Z01⟩, ⟨H10, Z10⟩, ⟨H11, Z11⟩⟩
  iapply (p12 m 0) $$ [H11 Hw Hp0]
  · isplitl [H11]; · iexact H11
    isplitl [Hw] <;> iassumption
  iintro ⟨H11, Hw, Hp0⟩
  ihave Hp0 := (lend 0 (oM 0) (prt m 0)).1 $$ Hp0
  icases Hp0 with ⟨HpL, Hq0, Hq1, Hq2⟩
  iapply (p13 m κ 0) $$ [HO Hq2 Hq0 Hs2 Hs0 Do2 Do0 To2 To0 Ti2 Ti0]
  · isplitr; · iexact HI
    isplitl [HO]; · iexact HO
    isplitl [Hq2 Hs2 Do2 To2 Ti2]
    · isplitl [Hq2]; · iexact Hq2
      rw [← ps_eq]; unfold ps
      isplitl [Hs2]; · iexact Hs2
      isplitl [Do2]; · iexact Do2
      isplitl [To2] <;> iassumption
    isplitl [Hq0]; · iexact Hq0
    rw [← ps_eq]; unfold ps
    isplitl [Hs0]; · iexact Hs0
    isplitl [Do0]; · iexact Do0
    isplitl [To0] <;> iassumption
  iintro ⟨HO, Wo2, Wo0⟩
  iapply (p14 m κ 0) $$ [HO Hq1 Hs1 Do1 To1 Ti1 Ci0 Ai0 Ci1 Ai1]
  · isplitr; · iexact HI
    isplitr; · iexact Hlev
    isplitl [HO]; · iexact HO
    isplitl [Hq1 Hs1 Do1 To1 Ti1]
    · isplitl [Hq1]; · iexact Hq1
      rw [← ps_eq]; unfold ps
      isplitl [Hs1]; · iexact Hs1
      isplitl [Do1]; · iexact Do1
      isplitl [To1] <;> iassumption
    unfold wt
    isplitl [Ci0 Ai0]
    · isplitl [Ci0] <;> iassumption
    isplitl [Ci1] <;> iassumption
  iintro ⟨HO, Wo1, ⟨Zi0, Hp1⟩, ⟨Zi1, Hp2⟩⟩
  iapply (p15 m κ 0) $$ [HO HpL Hp1 Hp2 Hu Ci2 Ai2]
  · isplitr; · iexact HI
    isplitr; · iexact Hlev
    isplitl [HO]; · iexact HO
    isplitl [Ci2 Ai2]
    · unfold wt; isplitl [Ci2] <;> iassumption
    isplitl [HpL]; · iexact HpL
    isplitl [Hp1]; · iexact Hp1
    isplitl [Hp2] <;> iassumption
  iintro ⟨HO, Zi2, HpL, Hp1, Hp2, Hp3, Hu⟩
  simp only [Prog.lift, Prog.bind_op, Prog.bind_ret, Prog.pure_eq_ret]
  iapply (wait_jo m κ 0 0 rfl (t := 0) rfl) $$ [HO Wo0]
  · isplitr; · iexact HI
    isplitr; · iexact Hlev
    isplitl [Wo0] <;> iassumption
  iintro ⟨HO, Zo0, Hq0⟩
  rw [wp_ret]; imodintro
  iapply (wait_jo m κ 0 1 rfl (t := 0) rfl) $$ [HO Wo1]
  · isplitr; · iexact HI
    isplitr; · iexact Hlev
    isplitl [Wo1] <;> iassumption
  iintro ⟨HO, Zo1, Hq1⟩
  rw [wp_ret]; imodintro
  iapply (wait_jo m κ 0 2 rfl (t := 0) rfl) $$ [HO Wo2]
  · isplitr; · iexact HI
    isplitr; · iexact Hlev
    isplitl [Wo2] <;> iassumption
  iintro ⟨HO, Zo2, Hq2⟩
  rw [wp_ret]; imodintro
  ihave Hp0 := (lend 0 (oM 0) (prt m 0)).2 $$ [HpL Hq0 Hq1 Hq2]
  · isplitl [HpL]; · iexact HpL
    isplitl [Hq0]; · iexact Hq0
    isplitl [Hq1] <;> iassumption
  simp only [dif_pos h6, k0_part8_eq_skeleton, k0_part9_eq_skeleton, k0_part8_skel, k0_part9_skel, Prog.lift, Prog.bind_op, Prog.bind_ret, Prog.pure_eq_ret]
  iapply (wait_js m κ 0 2 0 0 rfl rfl (ch := 0) (kv' := 0) rfl) $$ [HO E00]
  · isplitr; · iexact HI
    isplitr; · iexact Hlev
    isplitl [E00] <;> iassumption
  iintro ⟨HO, E00, Hk2⟩
  iapply (wait_js m κ 0 2 0 1 rfl rfl (ch := 0) (kv' := 0) rfl) $$ [HO E01]
  · isplitr; · iexact HI
    isplitr; · iexact Hlev
    isplitl [E01] <;> iassumption
  iintro ⟨HO, E01, Hv2⟩
  iapply (wait_js m κ 0 3 1 0 rfl rfl (ch := 0) (kv' := 0) rfl) $$ [HO E10]
  · isplitr; · iexact HI
    isplitr; · iexact Hlev
    isplitl [E10] <;> iassumption
  iintro ⟨HO, E10, Hk3⟩
  iapply (wait_js m κ 0 3 1 1 rfl rfl (ch := 0) (kv' := 0) rfl) $$ [HO E11]
  · isplitr; · iexact HI
    isplitr; · iexact Hlev
    isplitl [E11] <;> iassumption
  iintro ⟨HO, E11, Hv3⟩
  iapply (wait_js m κ 0 1 2 0 rfl rfl (ch := 0) (kv' := 0) rfl) $$ [HO E20]
  · isplitr; · iexact HI
    isplitr; · iexact Hlev
    isplitl [E20] <;> iassumption
  iintro ⟨HO, E20, Hk1⟩
  iapply (wait_js m κ 0 1 2 1 rfl rfl (ch := 0) (kv' := 0) rfl) $$ [HO E21]
  · isplitr; · iexact HI
    isplitr; · iexact Hlev
    isplitl [E21] <;> iassumption
  iintro ⟨HO, E21, Hv1⟩
  ihave Hk := (groups_join m 0 0) $$ [Gk Hk1 Hk2 Hk3]
  · isplitl [Gk]; · iexact Gk
    isplitl [Hk1]; · iexact Hk1
    isplitl [Hk2] <;> iassumption
  ihave Hv := (groups_join m 0 1) $$ [Gv Hv1 Hv2 Hv3]
  · isplitl [Gv]; · iexact Gv
    isplitl [Hv1]; · iexact Hv1
    isplitl [Hv2] <;> iassumption
  unfold dorm
  icases D10' with ⟨-, D10'⟩
  icases D11' with ⟨-, D11'⟩
  repeat (rw [wp_ret]; imodintro)
  iapply HQ
  isplitl [HO]; · iexact HO
  isplitl [Hx Hq Hk Hv Hw]
  · isplitl [Hx]; · iexact Hx
    isplitl [Hq]; · iexact Hq
    isplitl [Hk]; · iexact Hk
    isplitl [Hv] <;> iassumption
  isplitl [Hu]; · iexact Hu
  isplitl [H00 H01 H10 H11]
  · iapply (places_join 0)
    isplitl [H00]; · iapply (any_of 0 (cM 0 0) _) $$ H00
    isplitl [H01]; · iapply (any_of 0 (cM 0 1) _) $$ H01
    isplitl [H10]; · iapply (any_of 0 (cM 1 0) _) $$ H10
    iapply (any_of 0 (cM 1 1) _) $$ H11
  isplitl [Hp0 Hp1 Hp2 Hp3]
  · iapply (slots_join 0)
    isplitl [Hp0]; · iapply (any_of 0 (oM 0) _) $$ Hp0
    isplitl [Hp1]; · iapply (any_of 0 (oM 1) _) $$ Hp1
    isplitl [Hp2]; · iapply (any_of 0 (oM 2) _) $$ Hp2
    iapply (any_of 0 (oM 3) _) $$ Hp3
  isplitl [Hat]; · iexact Hat
  isplitl [Z00 Z01 Z10 Z11]
  · isplitl [Z00]; · iexact Z00
    isplitl [Z01]; · iexact Z01
    isplitl [Z10] <;> iassumption
  isplitl [E00 E01 E10 E11 E20 E21]
  · isplitl [E00]; · iexact E00
    isplitl [E01]; · iexact E01
    isplitl [E10]; · iexact E10
    isplitl [E11]; · iexact E11
    isplitl [E20] <;> iassumption
  isplitl [D10' D11']
  · isplitl [D10'] <;> iassumption
  isplitl [Zo0 Zo1 Zo2]
  · isplitl [Zo0]; · iexact Zo0
    isplitl [Zo1] <;> iassumption
  isplitl [Zi0]; · iexact Zi0
  isplitl [Zi1] <;> iassumption

theorem body_1 (κ : GSem nD τ sig → ℕ) {Q : PUnit → sProp 𝕄} :
    iprop(recs m κ ∗ levAts L lv ∗ owe 1 (O₀ 1) ∗ ins m 1 ∗ any 1 (Memref.whole cc0_stg5_0) ∗ any 1 sM ∗ any 1 pM ∗ start 1)
      ⊢ iprop(((owe 1 0 ∗ ins m 1 ∗ owns ((1 : Dev nD) : Thread nD τ) (Memref.whole cc0_stg5_0) fullShare (outS m 1) ∗ any 1 sM ∗ any 1 pM
            ∗ atPos ER (bc 1) (0 + 1) ∅ 0 ∗ every (fun j => semVal (oc 1 j) 0)) -∗ Q ⟨⟩)
        -∗ wp frame (wpE (defs₀ (F := F)) 𝒱₀ ((1 : Dev nD) : Thread nD τ) none) Set.univ (body (F := F)) Q) := by
  have h6 : Scalar.cmpi .ne (Scalar.extui (Scalar.cmpi .sle (w2 1) 1#32)) 0#32 = 1#1 := by decide
  unfold body ins start every barIn oT
  simp only [cc0_body_eq_skeleton]; unfold cc0_body_skel
  simp only [wp_bind]
  iintro ⟨#HI, #Hlev, HO, ⟨Hx, Hq, Hk, Hv, Hw⟩, Hu, Hs, Hp, Hb, ⟨⟨D00, D01, D10, D11⟩, ⟨E00, E01, E10, E11, E20, E21⟩, ⟨D10', D11'⟩, ⟨Do0, Do1, Do2⟩, ⟨Di0, Di1, Di2⟩⟩,
    HT, ⟨C00, C01, C10, C11⟩, ⟨⟨To0, Ti0, Ci0⟩, ⟨To1, Ti1, Ci1⟩, ⟨To2, Ti2, Ci2⟩⟩⟩ HQ
  ihave Hs := (places_split 1) $$ Hs
  icases Hs with ⟨S00, S01, S10, S11⟩
  ihave Hp := (slots_split 1) $$ Hp
  icases Hp with ⟨Hp0, Hp1, Hp2, Hp3⟩
  imod (give m κ 1) $$ [Hp1 Hp2 Hp3 Di0 Di1 Di2 S00 S01 S10 S11 D00 D01 D10 D11] with ⟨Hpay, ⟨Ai0, Ai1, Ai2⟩, K0, K1⟩
  · isplitr; · iexact HI
    isplitl [Hp1 Hp2 Hp3]
    · isplitl [Hp1]; · iexact Hp1
      isplitl [Hp2] <;> iassumption
    isplitl [Di0 Di1 Di2]
    · isplitl [Di0]; · iexact Di0
      isplitl [Di1] <;> iassumption
    unfold seat
    isplitl [S00 S01 D00 D01]
    · isplitl [S00 D00]
      · isplitl [S00] <;> iassumption
      isplitl [S01] <;> iassumption
    isplitl [S10 D10]
    · isplitl [S10] <;> iassumption
    isplitl [S11] <;> iassumption
  ihave K0 := (ne_keep 1 0 (by decide)) $$ K0
  icases K0 with ⟨A00, A01⟩
  ihave H00 := (wait_hold m 1 0 0 (by decide)) $$ [C00 A00]
  · isplitl [C00] <;> iassumption
  ihave H01 := (wait_hold m 1 0 1 (by decide)) $$ [C01 A01]
  · isplitl [C01] <;> iassumption
  ihave K1 := (own_keep 1 1 rfl) $$ K1
  unfold seat
  icases K1 with ⟨⟨S10, D10⟩, ⟨S11, D11⟩⟩
  ihave HT := toks_1 $$ HT
  unfold kvTs kvT
  icases HT with ⟨⟨Ta00, Tb00⟩, ⟨Ta01, Tb01⟩, ⟨Ta10, Tb10⟩, ⟨Ta11, Tb11⟩, ⟨Ta20, Tb20⟩, ⟨Ta21, Tb21⟩⟩
  iapply (p10_1 m κ) $$ [HO Hb Hpay Hx Hk Hv S10 S11 E00 Ta00 Tb00 E01 Ta01 Tb01 E10 Ta10 Tb10 E11 Ta11 Tb11 E20 Ta20 Tb20 E21 Ta21 Tb21]
  · isplitr; · iexact HI
    isplitr; · iexact Hlev
    isplitl [HO Hb Hpay]
    · unfold bar0 barIn
      isplitl [HO]; · iexact HO
      isplitl [Hb]; · iexact Hb
      iexact Hpay
    isplitl [Hx]; · iexact Hx
    isplitl [Hk]; · iexact Hk
    isplitl [Hv]; · iexact Hv
    isplitl [S10 S11]
    · isplitl [S10] <;> iassumption
    unfold tk
    isplitl [E00 Ta00 Tb00]
    · isplitl [E00]; · iexact E00
      isplitl [Ta00]; · iexact Ta00
      iexact Tb00
    isplitl [E01 Ta01 Tb01]
    · isplitl [E01]; · iexact E01
      isplitl [Ta01]; · iexact Ta01
      iexact Tb01
    isplitl [E10 Ta10 Tb10]
    · isplitl [E10]; · iexact E10
      isplitl [Ta10]; · iexact Ta10
      iexact Tb10
    isplitl [E11 Ta11 Tb11]
    · isplitl [E11]; · iexact E11
      isplitl [Ta11]; · iexact Ta11
      iexact Tb11
    isplitl [E20 Ta20 Tb20]
    · isplitl [E20]; · iexact E20
      isplitl [Ta20]; · iexact Ta20
      iexact Tb20
    isplitl [E21]; · iexact E21
    isplitl [Ta21]; · iexact Ta21
    iexact Tb21
  iintro ⟨HO, Hat, ⟨Hs0, Hs1, Hs2⟩, Hx, ⟨Gk, Gv⟩, ⟨S10, S11⟩, E00, E01, E10, E11, E20, E21⟩
  ihave H10 := (own_hold m 1 1 0 rfl rfl) $$ [S10 D10]
  · isplitl [S10]; · iexact S10
    iexact D10
  ihave H11 := (own_hold m 1 1 1 rfl rfl) $$ [S11 D11]
  · isplitl [S11]; · iexact S11
    iexact D11
  iapply (p11_1 m κ) $$ [HO Hq H00 H01 H10 H11]
  · isplitr; · iexact HI
    isplitr; · iexact Hlev
    isplitl [HO]; · iexact HO
    isplitl [Hq]; · iexact Hq
    isplitl [H00]; · iexact H00
    isplitl [H01]; · iexact H01
    isplitl [H10] <;> iassumption
  unfold got
  iintro ⟨HO, Hq, ⟨H00, Z00⟩, ⟨H01, Z01⟩, ⟨H10, Z10⟩, ⟨H11, Z11⟩⟩
  iapply (p12 m 1) $$ [H11 Hw Hp0]
  · isplitl [H11]; · iexact H11
    isplitl [Hw] <;> iassumption
  iintro ⟨H11, Hw, Hp0⟩
  ihave Hp0 := (lend 1 (oM 0) (prt m 1)).1 $$ Hp0
  icases Hp0 with ⟨HpL, Hq0, Hq1, Hq2⟩
  iapply (p13 m κ 1) $$ [HO Hq2 Hq0 Hs2 Hs0 Do2 Do0 To2 To0 Ti2 Ti0]
  · isplitr; · iexact HI
    isplitl [HO]; · iexact HO
    isplitl [Hq2 Hs2 Do2 To2 Ti2]
    · isplitl [Hq2]; · iexact Hq2
      rw [← ps_eq]; unfold ps
      isplitl [Hs2]; · iexact Hs2
      isplitl [Do2]; · iexact Do2
      isplitl [To2] <;> iassumption
    isplitl [Hq0]; · iexact Hq0
    rw [← ps_eq]; unfold ps
    isplitl [Hs0]; · iexact Hs0
    isplitl [Do0]; · iexact Do0
    isplitl [To0] <;> iassumption
  iintro ⟨HO, Wo2, Wo0⟩
  iapply (p14 m κ 1) $$ [HO Hq1 Hs1 Do1 To1 Ti1 Ci0 Ai0 Ci1 Ai1]
  · isplitr; · iexact HI
    isplitr; · iexact Hlev
    isplitl [HO]; · iexact HO
    isplitl [Hq1 Hs1 Do1 To1 Ti1]
    · isplitl [Hq1]; · iexact Hq1
      rw [← ps_eq]; unfold ps
      isplitl [Hs1]; · iexact Hs1
      isplitl [Do1]; · iexact Do1
      isplitl [To1] <;> iassumption
    unfold wt
    isplitl [Ci0 Ai0]
    · isplitl [Ci0] <;> iassumption
    isplitl [Ci1] <;> iassumption
  iintro ⟨HO, Wo1, ⟨Zi0, Hp1⟩, ⟨Zi1, Hp2⟩⟩
  iapply (p15 m κ 1) $$ [HO HpL Hp1 Hp2 Hu Ci2 Ai2]
  · isplitr; · iexact HI
    isplitr; · iexact Hlev
    isplitl [HO]; · iexact HO
    isplitl [Ci2 Ai2]
    · unfold wt; isplitl [Ci2] <;> iassumption
    isplitl [HpL]; · iexact HpL
    isplitl [Hp1]; · iexact Hp1
    isplitl [Hp2] <;> iassumption
  iintro ⟨HO, Zi2, HpL, Hp1, Hp2, Hp3, Hu⟩
  simp only [Prog.lift, Prog.bind_op, Prog.bind_ret, Prog.pure_eq_ret]
  iapply (wait_jo m κ 1 0 rfl (t := 0) rfl) $$ [HO Wo0]
  · isplitr; · iexact HI
    isplitr; · iexact Hlev
    isplitl [Wo0] <;> iassumption
  iintro ⟨HO, Zo0, Hq0⟩
  rw [wp_ret]; imodintro
  iapply (wait_jo m κ 1 1 rfl (t := 0) rfl) $$ [HO Wo1]
  · isplitr; · iexact HI
    isplitr; · iexact Hlev
    isplitl [Wo1] <;> iassumption
  iintro ⟨HO, Zo1, Hq1⟩
  rw [wp_ret]; imodintro
  iapply (wait_jo m κ 1 2 rfl (t := 0) rfl) $$ [HO Wo2]
  · isplitr; · iexact HI
    isplitr; · iexact Hlev
    isplitl [Wo2] <;> iassumption
  iintro ⟨HO, Zo2, Hq2⟩
  rw [wp_ret]; imodintro
  ihave Hp0 := (lend 1 (oM 0) (prt m 1)).2 $$ [HpL Hq0 Hq1 Hq2]
  · isplitl [HpL]; · iexact HpL
    isplitl [Hq0]; · iexact Hq0
    isplitl [Hq1] <;> iassumption
  simp only [dif_pos h6, k0_part8_eq_skeleton, k0_part9_eq_skeleton, k0_part8_skel, k0_part9_skel, Prog.lift, Prog.bind_op, Prog.bind_ret, Prog.pure_eq_ret]
  iapply (wait_js m κ 1 3 0 0 rfl rfl (ch := 0) (kv' := 0) rfl) $$ [HO E00]
  · isplitr; · iexact HI
    isplitr; · iexact Hlev
    isplitl [E00] <;> iassumption
  iintro ⟨HO, E00, Hk3⟩
  iapply (wait_js m κ 1 3 0 1 rfl rfl (ch := 0) (kv' := 0) rfl) $$ [HO E01]
  · isplitr; · iexact HI
    isplitr; · iexact Hlev
    isplitl [E01] <;> iassumption
  iintro ⟨HO, E01, Hv3⟩
  iapply (wait_js m κ 1 0 1 0 rfl rfl (ch := 0) (kv' := 0) rfl) $$ [HO E10]
  · isplitr; · iexact HI
    isplitr; · iexact Hlev
    isplitl [E10] <;> iassumption
  iintro ⟨HO, E10, Hk0⟩
  iapply (wait_js m κ 1 0 1 1 rfl rfl (ch := 0) (kv' := 0) rfl) $$ [HO E11]
  · isplitr; · iexact HI
    isplitr; · iexact Hlev
    isplitl [E11] <;> iassumption
  iintro ⟨HO, E11, Hv0⟩
  iapply (wait_js m κ 1 2 2 0 rfl rfl (ch := 0) (kv' := 0) rfl) $$ [HO E20]
  · isplitr; · iexact HI
    isplitr; · iexact Hlev
    isplitl [E20] <;> iassumption
  iintro ⟨HO, E20, Hk2⟩
  iapply (wait_js m κ 1 2 2 1 rfl rfl (ch := 0) (kv' := 0) rfl) $$ [HO E21]
  · isplitr; · iexact HI
    isplitr; · iexact Hlev
    isplitl [E21] <;> iassumption
  iintro ⟨HO, E21, Hv2⟩
  ihave Hk := (groups_join m 1 0) $$ [Hk0 Gk Hk2 Hk3]
  · isplitl [Hk0]; · iexact Hk0
    isplitl [Gk]; · iexact Gk
    isplitl [Hk2] <;> iassumption
  ihave Hv := (groups_join m 1 1) $$ [Hv0 Gv Hv2 Hv3]
  · isplitl [Hv0]; · iexact Hv0
    isplitl [Gv]; · iexact Gv
    isplitl [Hv2] <;> iassumption
  unfold dorm
  icases D10' with ⟨-, D10'⟩
  icases D11' with ⟨-, D11'⟩
  repeat (rw [wp_ret]; imodintro)
  iapply HQ
  isplitl [HO]; · iexact HO
  isplitl [Hx Hq Hk Hv Hw]
  · isplitl [Hx]; · iexact Hx
    isplitl [Hq]; · iexact Hq
    isplitl [Hk]; · iexact Hk
    isplitl [Hv] <;> iassumption
  isplitl [Hu]; · iexact Hu
  isplitl [H00 H01 H10 H11]
  · iapply (places_join 1)
    isplitl [H00]; · iapply (any_of 1 (cM 0 0) _) $$ H00
    isplitl [H01]; · iapply (any_of 1 (cM 0 1) _) $$ H01
    isplitl [H10]; · iapply (any_of 1 (cM 1 0) _) $$ H10
    iapply (any_of 1 (cM 1 1) _) $$ H11
  isplitl [Hp0 Hp1 Hp2 Hp3]
  · iapply (slots_join 1)
    isplitl [Hp0]; · iapply (any_of 1 (oM 0) _) $$ Hp0
    isplitl [Hp1]; · iapply (any_of 1 (oM 1) _) $$ Hp1
    isplitl [Hp2]; · iapply (any_of 1 (oM 2) _) $$ Hp2
    iapply (any_of 1 (oM 3) _) $$ Hp3
  isplitl [Hat]; · iexact Hat
  isplitl [Z00 Z01 Z10 Z11]
  · isplitl [Z00]; · iexact Z00
    isplitl [Z01]; · iexact Z01
    isplitl [Z10] <;> iassumption
  isplitl [E00 E01 E10 E11 E20 E21]
  · isplitl [E00]; · iexact E00
    isplitl [E01]; · iexact E01
    isplitl [E10]; · iexact E10
    isplitl [E11]; · iexact E11
    isplitl [E20] <;> iassumption
  isplitl [D10' D11']
  · isplitl [D10'] <;> iassumption
  isplitl [Zo0 Zo1 Zo2]
  · isplitl [Zo0]; · iexact Zo0
    isplitl [Zo1] <;> iassumption
  isplitl [Zi0]; · iexact Zi0
  isplitl [Zi1] <;> iassumption

theorem body_rest (κ : GSem nD τ sig → ℕ) (c : Dev nD) (hc : 2 ≤ c.val) {Q : PUnit → sProp 𝕄} :
    iprop(recs m κ ∗ levAts L lv ∗ owe c (O₀ c) ∗ ins m c ∗ any c (Memref.whole cc0_stg5_0) ∗ any c sM ∗ any c pM ∗ start c)
      ⊢ iprop(((owe c 0 ∗ ins m c ∗ owns (c : Thread nD τ) (Memref.whole cc0_stg5_0) fullShare (outS m c) ∗ any c sM ∗ any c pM
            ∗ atPos ER (bc c) (0 + 1) ∅ 0 ∗ every (fun j => semVal (oc c j) 0)) -∗ Q ⟨⟩)
        -∗ wp frame (wpE (defs₀ (F := F)) 𝒱₀ (c : Thread nD τ) none) Set.univ (body (F := F)) Q) := by
  have h6 : ¬ Scalar.cmpi .ne (Scalar.extui (Scalar.cmpi .sle (w2 c) 1#32)) 0#32 = 1#1 := by revert c; decide
  unfold body ins start every barIn oT
  simp only [cc0_body_eq_skeleton]; unfold cc0_body_skel
  simp only [wp_bind]
  iintro ⟨#HI, #Hlev, HO, ⟨Hx, Hq, Hk, Hv, Hw⟩, Hu, Hs, Hp, Hb, ⟨⟨D00, D01, D10, D11⟩, ⟨E00, E01, E10, E11, E20, E21⟩, ⟨D10', D11'⟩, ⟨Do0, Do1, Do2⟩, ⟨Di0, Di1, Di2⟩⟩,
    HT, ⟨C00, C01, C10, C11⟩, ⟨⟨To0, Ti0, Ci0⟩, ⟨To1, Ti1, Ci1⟩, ⟨To2, Ti2, Ci2⟩⟩⟩ HQ
  ihave Hs := (places_split c) $$ Hs
  icases Hs with ⟨S00, S01, S10, S11⟩
  ihave Hp := (slots_split c) $$ Hp
  icases Hp with ⟨Hp0, Hp1, Hp2, Hp3⟩
  imod (give m κ c) $$ [Hp1 Hp2 Hp3 Di0 Di1 Di2 S00 S01 S10 S11 D00 D01 D10 D11] with ⟨Hpay, ⟨Ai0, Ai1, Ai2⟩, K0, K1⟩
  · isplitr; · iexact HI
    isplitl [Hp1 Hp2 Hp3]
    · isplitl [Hp1]; · iexact Hp1
      isplitl [Hp2] <;> iassumption
    isplitl [Di0 Di1 Di2]
    · isplitl [Di0]; · iexact Di0
      isplitl [Di1] <;> iassumption
    unfold seat
    isplitl [S00 S01 D00 D01]
    · isplitl [S00 D00]
      · isplitl [S00] <;> iassumption
      isplitl [S01] <;> iassumption
    isplitl [S10 D10]
    · isplitl [S10] <;> iassumption
    isplitl [S11] <;> iassumption
  ihave K0 := (ne_keep c 0 (by revert c; decide)) $$ K0
  icases K0 with ⟨A00, A01⟩
  ihave H00 := (wait_hold m c 0 0 (by revert c; decide)) $$ [C00 A00]
  · isplitl [C00] <;> iassumption
  ihave H01 := (wait_hold m c 0 1 (by revert c; decide)) $$ [C01 A01]
  · isplitl [C01] <;> iassumption
  ihave K1 := (ne_keep c 1 (by revert c; decide)) $$ K1
  icases K1 with ⟨A10, A11⟩
  ihave H10 := (wait_hold m c 1 0 (by revert c; decide)) $$ [C10 A10]
  · isplitl [C10] <;> iassumption
  ihave H11 := (wait_hold m c 1 1 (by revert c; decide)) $$ [C11 A11]
  · isplitl [C11] <;> iassumption
  iapply (p10_rest m κ c hc) $$ [HO Hb Hpay Hx]
  · isplitr; · iexact HI
    isplitr; · iexact Hlev
    isplitl [HO Hb Hpay]
    · unfold bar0 barIn
      isplitl [HO]; · iexact HO
      isplitl [Hb]; · iexact Hb
      iexact Hpay
    iexact Hx
  iintro ⟨HO, Hat, ⟨Hs0, Hs1, Hs2⟩, Hx⟩
  ihave Hs0 := (slot_of c 0) $$ Hs0
  ihave Hs1 := (slot_of c 1) $$ Hs1
  ihave Hs2 := (slot_of c 2) $$ Hs2
  iapply (p11_rest m κ c hc) $$ [HO Hq H00 H01 H10 H11]
  · isplitr; · iexact HI
    isplitr; · iexact Hlev
    isplitl [HO]; · iexact HO
    isplitl [Hq]; · iexact Hq
    isplitl [H00]; · iexact H00
    isplitl [H01]; · iexact H01
    isplitl [H10] <;> iassumption
  unfold got
  iintro ⟨HO, Hq, ⟨H00, Z00⟩, ⟨H01, Z01⟩, ⟨H10, Z10⟩, ⟨H11, Z11⟩⟩
  iapply (p12 m c) $$ [H11 Hw Hp0]
  · isplitl [H11]; · iexact H11
    isplitl [Hw] <;> iassumption
  iintro ⟨H11, Hw, Hp0⟩
  ihave Hp0 := (lend c (oM 0) (prt m c)).1 $$ Hp0
  icases Hp0 with ⟨HpL, Hq0, Hq1, Hq2⟩
  iapply (p13 m κ c) $$ [HO Hq2 Hq0 Hs2 Hs0 Do2 Do0 To2 To0 Ti2 Ti0]
  · isplitr; · iexact HI
    isplitl [HO]; · iexact HO
    isplitl [Hq2 Hs2 Do2 To2 Ti2]
    · isplitl [Hq2]; · iexact Hq2
      rw [← ps_eq]; unfold ps
      isplitl [Hs2]; · iexact Hs2
      isplitl [Do2]; · iexact Do2
      isplitl [To2] <;> iassumption
    isplitl [Hq0]; · iexact Hq0
    rw [← ps_eq]; unfold ps
    isplitl [Hs0]; · iexact Hs0
    isplitl [Do0]; · iexact Do0
    isplitl [To0] <;> iassumption
  iintro ⟨HO, Wo2, Wo0⟩
  iapply (p14 m κ c) $$ [HO Hq1 Hs1 Do1 To1 Ti1 Ci0 Ai0 Ci1 Ai1]
  · isplitr; · iexact HI
    isplitr; · iexact Hlev
    isplitl [HO]; · iexact HO
    isplitl [Hq1 Hs1 Do1 To1 Ti1]
    · isplitl [Hq1]; · iexact Hq1
      rw [← ps_eq]; unfold ps
      isplitl [Hs1]; · iexact Hs1
      isplitl [Do1]; · iexact Do1
      isplitl [To1] <;> iassumption
    unfold wt
    isplitl [Ci0 Ai0]
    · isplitl [Ci0] <;> iassumption
    isplitl [Ci1] <;> iassumption
  iintro ⟨HO, Wo1, ⟨Zi0, Hp1⟩, ⟨Zi1, Hp2⟩⟩
  iapply (p15 m κ c) $$ [HO HpL Hp1 Hp2 Hu Ci2 Ai2]
  · isplitr; · iexact HI
    isplitr; · iexact Hlev
    isplitl [HO]; · iexact HO
    isplitl [Ci2 Ai2]
    · unfold wt; isplitl [Ci2] <;> iassumption
    isplitl [HpL]; · iexact HpL
    isplitl [Hp1]; · iexact Hp1
    isplitl [Hp2] <;> iassumption
  iintro ⟨HO, Zi2, HpL, Hp1, Hp2, Hp3, Hu⟩
  simp only [Prog.lift, Prog.bind_op, Prog.bind_ret, Prog.pure_eq_ret]
  iapply (wait_jo m κ c 0 rfl (t := 0) rfl) $$ [HO Wo0]
  · isplitr; · iexact HI
    isplitr; · iexact Hlev
    isplitl [Wo0] <;> iassumption
  iintro ⟨HO, Zo0, Hq0⟩
  rw [wp_ret]; imodintro
  iapply (wait_jo m κ c 1 rfl (t := 0) rfl) $$ [HO Wo1]
  · isplitr; · iexact HI
    isplitr; · iexact Hlev
    isplitl [Wo1] <;> iassumption
  iintro ⟨HO, Zo1, Hq1⟩
  rw [wp_ret]; imodintro
  iapply (wait_jo m κ c 2 rfl (t := 0) rfl) $$ [HO Wo2]
  · isplitr; · iexact HI
    isplitr; · iexact Hlev
    isplitl [Wo2] <;> iassumption
  iintro ⟨HO, Zo2, Hq2⟩
  rw [wp_ret]; imodintro
  ihave Hp0 := (lend c (oM 0) (prt m c)).2 $$ [HpL Hq0 Hq1 Hq2]
  · isplitl [HpL]; · iexact HpL
    isplitl [Hq0]; · iexact Hq0
    isplitl [Hq1] <;> iassumption
  simp only [dif_neg h6, Prog.bind_ret, Prog.pure_eq_ret]
  unfold dorm
  icases E00 with ⟨-, E00⟩
  icases E01 with ⟨-, E01⟩
  icases E10 with ⟨-, E10⟩
  icases E11 with ⟨-, E11⟩
  icases E20 with ⟨-, E20⟩
  icases E21 with ⟨-, E21⟩
  icases D10' with ⟨-, D10'⟩
  icases D11' with ⟨-, D11'⟩
  repeat (rw [wp_ret]; imodintro)
  iapply HQ
  isplitl [HO]; · iexact HO
  isplitl [Hx Hq Hk Hv Hw]
  · isplitl [Hx]; · iexact Hx
    isplitl [Hq]; · iexact Hq
    isplitl [Hk]; · iexact Hk
    isplitl [Hv] <;> iassumption
  isplitl [Hu]; · iexact Hu
  isplitl [H00 H01 H10 H11]
  · iapply (places_join c)
    isplitl [H00]; · iapply (any_of c (cM 0 0) _) $$ H00
    isplitl [H01]; · iapply (any_of c (cM 0 1) _) $$ H01
    isplitl [H10]; · iapply (any_of c (cM 1 0) _) $$ H10
    iapply (any_of c (cM 1 1) _) $$ H11
  isplitl [Hp0 Hp1 Hp2 Hp3]
  · iapply (slots_join c)
    isplitl [Hp0]; · iapply (any_of c (oM 0) _) $$ Hp0
    isplitl [Hp1]; · iapply (any_of c (oM 1) _) $$ Hp1
    isplitl [Hp2]; · iapply (any_of c (oM 2) _) $$ Hp2
    iapply (any_of c (oM 3) _) $$ Hp3
  isplitl [Hat]; · iexact Hat
  isplitl [Z00 Z01 Z10 Z11]
  · isplitl [Z00]; · iexact Z00
    isplitl [Z01]; · iexact Z01
    isplitl [Z10] <;> iassumption
  isplitl [E00 E01 E10 E11 E20 E21]
  · isplitl [E00]; · iexact E00
    isplitl [E01]; · iexact E01
    isplitl [E10]; · iexact E10
    isplitl [E11]; · iexact E11
    isplitl [E20] <;> iassumption
  isplitl [D10' D11']
  · isplitl [D10'] <;> iassumption
  isplitl [Zo0 Zo1 Zo2]
  · isplitl [Zo0]; · iexact Zo0
    isplitl [Zo1] <;> iassumption
  isplitl [Zi0]; · iexact Zi0
  isplitl [Zi1] <;> iassumption

/-- The body on every device. -/
theorem body_all (κ : GSem nD τ sig → ℕ) (c : Dev nD) {Q : PUnit → sProp 𝕄} :
    iprop(recs m κ ∗ levAts L lv ∗ owe c (O₀ c) ∗ ins m c ∗ any c (Memref.whole cc0_stg5_0) ∗ any c sM ∗ any c pM ∗ start c)
      ⊢ iprop(((owe c 0 ∗ ins m c ∗ owns (c : Thread nD τ) (Memref.whole cc0_stg5_0) fullShare (outS m c) ∗ any c sM ∗ any c pM
            ∗ atPos ER (bc c) (0 + 1) ∅ 0 ∗ every (fun j => semVal (oc c j) 0)) -∗ Q ⟨⟩)
        -∗ wp frame (wpE (defs₀ (F := F)) 𝒱₀ (c : Thread nD τ) none) Set.univ (body (F := F)) Q) := by
  rcases dev_cases c with rfl | rfl | rfl | rfl
  · exact body_0 m κ
  · exact body_1 m κ
  · exact body_rest m κ 2 (by decide)
  · exact body_rest m κ 3 (by decide)

end Cert.KernelIdeal.Talk
-- ==== Proof.KI.Deal.lean ====
/- The launch: the cells and duties funded, the duties' tokens and the credit dealt to the devices. -/
module

public import Mathlib.Tactic.Abel
public import proofs.«01_k».proof.Proof.KI.Body

@[expose] public section

set_option maxHeartbeats 2000000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## All of the kernel's own semaphores, listed -/

theorem every_list (P : Fin 18 → sProp 𝕄) : bigSep Finset.univ P = iprop(P (jr 0 0) ∗ P (jr 0 1) ∗ P (jr 1 0) ∗ P (jr 1 1) ∗ P (js 0 0) ∗ P (js 0 1) ∗ P (js 1 0) ∗ P (js 1 1) ∗ P (js 2 0) ∗ P (js 2 1) ∗ P (10) ∗ P (11) ∗ P (jo 0) ∗ P (jo 1) ∗ P (jo 2) ∗ P (ji 0) ∗ P (ji 1) ∗ P (ji 2)) :=
  bigSep_univ_eq_bigSepL [jr 0 0, jr 0 1, jr 1 0, jr 1 1, js 0 0, js 0 1, js 1 0, js 1 1, js 2 0, js 2 1, 10, 11, jo 0, jo 1, jo 2, ji 0, ji 1, ji 2] (by decide) (by decide) P

theorem every_of (P : Fin 18 → sProp 𝕄) : bigSep Finset.univ P ⊢ every P := by
  rw [every_list]
  unfold every
  iintro ⟨H0, H1, H2, H3, H4, H5, H6, H7, H8, H9, H10, H11, H12, H13, H14, H15, H16, H17⟩
  isplitl [H0 H1 H2 H3]
  · isplitl [H0]; · iexact H0
    isplitl [H1]; · iexact H1
    isplitl [H2]; · iexact H2
    iexact H3
  isplitl [H4 H5 H6 H7 H8 H9]
  · isplitl [H4]; · iexact H4
    isplitl [H5]; · iexact H5
    isplitl [H6]; · iexact H6
    isplitl [H7]; · iexact H7
    isplitl [H8]; · iexact H8
    iexact H9
  isplitl [H10 H11]
  · isplitl [H10]; · iexact H10
    iexact H11
  isplitl [H12 H13 H14]
  · isplitl [H12]; · iexact H12
    isplitl [H13]; · iexact H13
    iexact H14
  isplitl [H15]; · iexact H15
  isplitl [H16]; · iexact H16
  iexact H17

theorem every_all (P : Fin 18 → sProp 𝕄) : every P ⊢ bigSep Finset.univ P := by
  rw [every_list]
  unfold every
  iintro ⟨⟨H0, H1, H2, H3⟩, ⟨H4, H5, H6, H7, H8, H9⟩, ⟨H10, H11⟩, ⟨H12, H13, H14⟩, H15, H16, H17⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem every_sep (P Q : Fin 18 → sProp 𝕄) : iprop(every P ∗ every Q) ⊢ every fun j => iprop(P j ∗ Q j) :=
  ((BIClass.sep_mono (every_all P) (every_all Q)).trans (Entails.of_eq (bigSep_sep' Finset.univ P Q).symm)).trans (every_of _)

theorem devs (P : Dev nD → sProp 𝕄) : bigSep Finset.univ P = iprop(P 0 ∗ P 1 ∗ P 2 ∗ P 3) := by
  rw [bigSep_univ_eq_bigSepL [0, 1, 2, 3] (by decide) (by decide)]
  simp only [bigSepL_cons_cons, bigSepL_singleton]
  rfl

/-! ## Cells and duties -/

theorem ow_inj : Function.Injective ow := by decide

def barEmb : Dev nD ↪ GSem nD τ sig := ⟨bc, fun _ _ h => congrArg (fun g : GSem nD τ sig => g.1.1) h⟩
def ownEmb : Dev nD × Fin 18 ↪ GSem nD τ sig :=
  ⟨fun cj => oc cj.1 cj.2, fun a b h => Prod.ext (congrArg (fun g : GSem nD τ sig => g.1.1) h)
    (ow_inj (SemLoc.dma.inj (congrArg Prod.snd h)))⟩

/-- The barrier cells, live from the launch; the kernel's own cells, opened inside. -/
abbrev liveCells : Finset (GSem nD τ sig) := Finset.univ.map barEmb
abbrev lateCells : Finset (GSem nD τ sig) := Finset.univ.map ownEmb

theorem cells_disjoint : Disjoint liveCells lateCells := by
  rw [Finset.disjoint_left]
  rintro g h₁ h₂
  obtain ⟨c, -, rfl⟩ := Finset.mem_map.mp h₁
  obtain ⟨cj, -, h⟩ := Finset.mem_map.mp h₂
  exact absurd (congrArg Prod.snd h) (by intro h'; cases h')

def barDuty : Dev nD × Fin 3 ↪ GSem nD τ sig × ℕ × Fin 3 :=
  ⟨fun ck => (bc ck.1, 0, ck.2), fun a b h => Prod.ext (congrArg (fun t : GSem nD τ sig × ℕ × Fin 3 => t.1.1.1) h)
    (congrArg (fun t : GSem nD τ sig × ℕ × Fin 3 => t.2.2) h)⟩
def ownDuty : Dev nD × Fin 18 ↪ GSem nD τ sig × ℕ × Fin 3 :=
  ⟨fun cj => (oc cj.1 cj.2, 0, 0), fun a b h => ownEmb.injective (congrArg Prod.fst h)⟩
def duties : Finset (GSem nD τ sig × ℕ × Fin 3) := Finset.univ.map barDuty ∪ Finset.univ.map ownDuty

theorem duties_disjoint : Disjoint (Finset.univ.map barDuty) (Finset.univ.map ownDuty) := by
  rw [Finset.disjoint_left]
  rintro g h₁ h₂
  obtain ⟨c, -, rfl⟩ := Finset.mem_map.mp h₁
  obtain ⟨cj, -, h⟩ := Finset.mem_map.mp h₂
  exact absurd (congrArg (fun t : GSem nD τ sig × ℕ × Fin 3 => t.1.2) h) (by intro h'; cases h')

/-- The tokens of a device's own cells, as minted. -/
def minted (c : Dev nD) : sProp 𝕄 :=
  iprop((dutyTok ER (bc c) 0 0 ∗ dutyTok ER (bc c) 0 1 ∗ dutyTok ER (bc c) 0 2) ∗ every fun j => dutyTok ER (oc c j) 0 0)

theorem duties_minted : bigSep duties (fun x => (dutyTok ER x.1 x.2.1 x.2.2 : sProp 𝕄)) ⊢ bigSep Finset.univ fun c : Dev nD => minted c := by
  unfold duties minted
  rw [bigSep_union duties_disjoint, bigSep_map, bigSep_map, bigSep_univ_prod, bigSep_univ_prod, bigSep_sep']
  have h (c : Dev nD) : bigSep Finset.univ (fun k : Fin 3 => (dutyTok ER (bc c) 0 k : sProp 𝕄))
      ⊢ iprop(dutyTok ER (bc c) 0 0 ∗ dutyTok ER (bc c) 0 1 ∗ dutyTok ER (bc c) 0 2) := by
    rw [bigSep_univ_eq_bigSepL [0, 1, 2] (by decide) (by decide), bigSepL_cons_cons, bigSepL_cons_cons, bigSepL_singleton]
    exact BIBase.Entails.rfl
  exact BI.sep_mono (bigSep_mono fun c _ => h c) (bigSep_mono fun c _ => every_of fun j => dutyTok ER (oc c j) 0 0)

/-- The peers in one direction, as a bijection. -/
def dir (k : Fin 3) : Dev nD ≃ Dev nD := ⟨toD k, fr k, fr_to k, to_fr k⟩

theorem around (k : Fin 3) (P : Dev nD → sProp 𝕄) : bigSep Finset.univ P = bigSep Finset.univ fun c => P (toD k c) :=
  bigSep_univ_equiv (dir k) P

/-- The tokens a device pays with. -/
def barT (c : Dev nD) : sProp 𝕄 := iprop(dutyTok ER (bc (toD 1 c)) 0 0 ∗ dutyTok ER (bc (toD 0 c)) 0 1 ∗ dutyTok ER (bc (toD 2 c)) 0 2)
def outT (c : Dev nD) : sProp 𝕄 :=
  iprop((dutyTok ER (oc c (jo 0)) 0 0 ∗ dutyTok ER (oc c (jo 1)) 0 0 ∗ dutyTok ER (oc c (jo 2)) 0 0)
    ∗ (dutyTok ER (oc (toD 0 c) (ji 0)) 0 0 ∗ dutyTok ER (oc (toD 1 c) (ji 1)) 0 0 ∗ dutyTok ER (oc (toD 2 c) (ji 2)) 0 0))
def jrT (c : Dev nD) : sProp 𝕄 := iprop(dutyTok ER (oc c (jr 0 0)) 0 0 ∗ dutyTok ER (oc c (jr 0 1)) 0 0 ∗ dutyTok ER (oc c (jr 1 0)) 0 0 ∗ dutyTok ER (oc c (jr 1 1)) 0 0)
def jsT (c : Dev nD) : sProp 𝕄 := iprop(dutyTok ER (oc c (js 0 0)) 0 0 ∗ dutyTok ER (oc c (js 0 1)) 0 0 ∗ dutyTok ER (oc c (js 1 0)) 0 0 ∗ dutyTok ER (oc c (js 1 1)) 0 0 ∗ dutyTok ER (oc c (js 2 0)) 0 0 ∗ dutyTok ER (oc c (js 2 1)) 0 0)

theorem kv_deal : iprop((bigSep Finset.univ fun c : Dev nD => jrT (F := F) c) ∗ bigSep Finset.univ fun c : Dev nD => jsT (F := F) c)
    ⊢ bigSep Finset.univ fun c : Dev nD => kvToks (F := F) c := by
  rw [devs, devs, devs]
  have h0 : kvToks (F := F) 0 = kvTs 0 0 := by unfold kvToks; exact dif_pos (by decide)
  have h1 : kvToks (F := F) 1 = kvTs 1 1 := by unfold kvToks; exact dif_pos (by decide)
  have h2 : kvToks (F := F) 2 = iprop(emp) := by unfold kvToks; exact dif_neg (by decide)
  have h3 : kvToks (F := F) 3 = iprop(emp) := by unfold kvToks; exact dif_neg (by decide)
  rw [h0, h1, h2, h3]
  unfold jrT jsT kvTs kvT
  iintro ⟨⟨⟨R000, R001, R010, R011⟩, ⟨R100, R101, R110, R111⟩, ⟨R200, R201, R210, R211⟩, ⟨R300, R301, R310, R311⟩⟩, ⟨S000, S001, S010, S011, S020, S021⟩, ⟨S100, S101, S110, S111, S120, S121⟩, ⟨S200, S201, S210, S211, S220, S221⟩, ⟨S300, S301, S310, S311, S320, S321⟩⟩
  isplitl [S000 R200 S001 R201 S010 R300 S011 R301 S020 R100 S021 R101]
  · isplitl [S000 R200]
    · isplitl [S000]; · iexact S000
      iexact R200
    isplitl [S001 R201]
    · isplitl [S001]; · iexact S001
      iexact R201
    isplitl [S010 R300]
    · isplitl [S010]; · iexact S010
      iexact R300
    isplitl [S011 R301]
    · isplitl [S011]; · iexact S011
      iexact R301
    isplitl [S020 R100]
    · isplitl [S020]; · iexact S020
      iexact R100
    isplitl [S021]; · iexact S021
    iexact R101
  isplitl [S100 R310 S101 R311 S110 R010 S111 R011 S120 R210 S121 R211]
  · isplitl [S100 R310]
    · isplitl [S100]; · iexact S100
      iexact R310
    isplitl [S101 R311]
    · isplitl [S101]; · iexact S101
      iexact R311
    isplitl [S110 R010]
    · isplitl [S110]; · iexact S110
      iexact R010
    isplitl [S111 R011]
    · isplitl [S111]; · iexact S111
      iexact R011
    isplitl [S120 R210]
    · isplitl [S120]; · iexact S120
      iexact R210
    isplitl [S121]; · iexact S121
    iexact R211
  isplitr <;> iempintro

theorem tokens_deal : (bigSep Finset.univ fun c : Dev nD => minted (F := F) c)
    ⊢ bigSep Finset.univ fun c : Dev nD => iprop(barT c ∗ kvToks c ∗ outT c) := by
  have h : (bigSep Finset.univ fun c : Dev nD => minted (F := F) c)
      ⊢ iprop((bigSep Finset.univ fun c : Dev nD => barT (F := F) c)
        ∗ ((bigSep Finset.univ fun c : Dev nD => jrT (F := F) c) ∗ bigSep Finset.univ fun c : Dev nD => jsT (F := F) c)
        ∗ bigSep Finset.univ fun c : Dev nD => outT (F := F) c) := by
    unfold minted every barT outT jrT jsT
    simp only [bigSep_sep']
    rw [around 1 (fun c : Dev nD => (dutyTok ER (bc c) 0 0 : sProp 𝕄)), around 0 (fun c : Dev nD => (dutyTok ER (bc c) 0 1 : sProp 𝕄)),
      around 2 (fun c : Dev nD => (dutyTok ER (bc c) 0 2 : sProp 𝕄)),
      around 0 (fun c : Dev nD => (dutyTok ER (oc c (ji 0)) 0 0 : sProp 𝕄)), around 1 (fun c : Dev nD => (dutyTok ER (oc c (ji 1)) 0 0 : sProp 𝕄)),
      around 2 (fun c : Dev nD => (dutyTok ER (oc c (ji 2)) 0 0 : sProp 𝕄))]
    iintro ⟨HB, HR, HS, -, HO, HI⟩
    isplitl [HB]; · iexact HB
    isplitl [HR HS]
    · isplitl [HR]; · iexact HR
      iexact HS
    isplitl [HO]; · iexact HO
    iexact HI
  refine h.trans ?_
  rw [bigSep_sep', bigSep_sep']
  exact BIClass.sep_mono BIBase.Entails.rfl (BIClass.sep_mono kv_deal BIBase.Entails.rfl)

/-! ## The credit -/

/-- What lands at a device's places of keys and values, and all that is due to it. -/
def kDue (c : Dev nD) (ch kv : Fin 2) : CellTallies nD τ sig Unit := if c = chD ch then 0 else tallyAt (oc c (jr ch kv)) () N₁
def due (c : Dev nD) : CellTallies nD τ sig Unit :=
  tallyAt (bc c) () 3 + (kDue c 0 0 + (kDue c 0 1 + (kDue c 1 0 + kDue c 1 1)))
    + (tallyAt (oc c (ji 0)) () N₂ + (tallyAt (oc c (ji 1)) () N₂ + tallyAt (oc c (ji 2)) () N₂))

/-- Everything at the cells of one device. -/
def At (c : Dev nD) (T : CellTallies nD τ sig Unit) : Prop := ∀ g, g.1 ≠ (c : Thread nD τ) → T g = 0
theorem At.add {c : Dev nD} {T T' : CellTallies nD τ sig Unit} (h : At c T) (h' : At c T') : At c (T + T') := fun g hg => by
  rw [Pi.add_apply, h g hg, h' g hg, add_zero]
theorem At.tally (c : Dev nD) (sm : SemLoc sig) (n : ℕ) : At c (tallyAt ((c : Thread nD τ), sm) () n) := fun g hg =>
  tallyAt_ne_cell (fun h => hg (congrArg Prod.fst h)) _ _
theorem At.kDue (c : Dev nD) (ch kv : Fin 2) : At c (kDue c ch kv) := by
  unfold Talk.kDue; split
  · exact fun _ _ => rfl
  · exact At.tally _ _ _
theorem due_at (c : Dev nD) : At c (due c) :=
  (((At.tally _ _ _).add ((At.kDue c 0 0).add ((At.kDue c 0 1).add ((At.kDue c 1 0).add (At.kDue c 1 1)))))).add
    ((At.tally _ _ _).add ((At.tally _ _ _).add (At.tally _ _ _)))

theorem three (c : Dev nD) : (tallyAt (bc c) () 3 : CellTallies nD τ sig Unit) = tallyAt (bc c) () 1 + tallyAt (bc c) () 1 + tallyAt (bc c) () 1 := by
  rw [tallyAt_add, tallyAt_add]

theorem due_sum : (∑ d : Dev nD, O₀ d) = ∑ d : Dev nD, due d := by
  have e0 : mO 0 = kO 0 0 6 := dif_pos (by decide)
  have e1 : mO 1 = kO 1 1 6 := dif_pos (by decide)
  have e2 : mO 2 = orO 2 := dif_neg (by decide)
  have e3 : mO 3 = orO 3 := dif_neg (by decide)
  have t00 : toD 0 0 = 1 := rfl
  have t01 : toD 0 1 = 2 := rfl
  have t02 : toD 0 2 = 3 := rfl
  have t03 : toD 0 3 = 0 := rfl
  have t10 : toD 1 0 = 3 := rfl
  have t11 : toD 1 1 = 0 := rfl
  have t12 : toD 1 2 = 1 := rfl
  have t13 : toD 1 3 = 2 := rfl
  have t20 : toD 2 0 = 2 := rfl
  have t21 : toD 2 1 = 3 := rfl
  have t22 : toD 2 2 = 0 := rfl
  have t23 : toD 2 3 = 1 := rfl
  have d000 : kDue 0 0 0 = 0 := if_pos rfl
  have d001 : kDue 0 0 1 = 0 := if_pos rfl
  have d010 : kDue 0 1 0 = tallyAt (oc 0 (jr 1 0)) () N₁ := if_neg (by decide)
  have d011 : kDue 0 1 1 = tallyAt (oc 0 (jr 1 1)) () N₁ := if_neg (by decide)
  have d100 : kDue 1 0 0 = tallyAt (oc 1 (jr 0 0)) () N₁ := if_neg (by decide)
  have d101 : kDue 1 0 1 = tallyAt (oc 1 (jr 0 1)) () N₁ := if_neg (by decide)
  have d110 : kDue 1 1 0 = 0 := if_pos rfl
  have d111 : kDue 1 1 1 = 0 := if_pos rfl
  have d200 : kDue 2 0 0 = tallyAt (oc 2 (jr 0 0)) () N₁ := if_neg (by decide)
  have d201 : kDue 2 0 1 = tallyAt (oc 2 (jr 0 1)) () N₁ := if_neg (by decide)
  have d210 : kDue 2 1 0 = tallyAt (oc 2 (jr 1 0)) () N₁ := if_neg (by decide)
  have d211 : kDue 2 1 1 = tallyAt (oc 2 (jr 1 1)) () N₁ := if_neg (by decide)
  have d300 : kDue 3 0 0 = tallyAt (oc 3 (jr 0 0)) () N₁ := if_neg (by decide)
  have d301 : kDue 3 0 1 = tallyAt (oc 3 (jr 0 1)) () N₁ := if_neg (by decide)
  have d310 : kDue 3 1 0 = tallyAt (oc 3 (jr 1 0)) () N₁ := if_neg (by decide)
  have d311 : kDue 3 1 1 = tallyAt (oc 3 (jr 1 1)) () N₁ := if_neg (by decide)
  rw [Fin.sum_univ_four, Fin.sum_univ_four]
  unfold O₀ due
  rw [e0, e1, e2, e3, d000, d001, d010, d011, d100, d101, d110, d111, d200, d201, d210, d211, d300, d301, d310, d311]
  simp only [kO, kT, orO, three, t00, t01, t02, t03, t10, t11, t12, t13, t20, t21, t22, t23]
  abel

theorem credit (c : Dev nD) : (Pipeline.launchCred O₀ c : sProp 𝕄) ⊢ cred (due c) :=
  Entails.of_eq (Pipeline.launchCred_of_sum O₀ due due_sum (fun d g h => by
    by_contra hg; exact h (due_at d g hg)) c)

theorem crd_of (c : Dev nD) (ch kv : Fin 2) : (cred (kDue c ch kv) : sProp 𝕄) ⊢ crd c ch kv := by
  unfold kDue crd; split
  · rw [cred_zero]
  · rw [amt_jr]

def outC (c : Dev nD) : sProp 𝕄 :=
  iprop(cred (tallyAt (oc c (ji 0)) () (amt (ji 0))) ∗ cred (tallyAt (oc c (ji 1)) () (amt (ji 1))) ∗ cred (tallyAt (oc c (ji 2)) () (amt (ji 2))))

theorem credits (c : Dev nD) : (Pipeline.launchCred O₀ c : sProp 𝕄)
    ⊢ iprop(cred (tallyAt (bc c) () 3) ∗ (crd c 0 0 ∗ crd c 0 1 ∗ crd c 1 0 ∗ crd c 1 1) ∗ outC c) := by
  refine (credit c).trans ?_
  unfold due outC
  rw [amt_ji, amt_ji, amt_ji]
  iintro H
  ihave H := (cred_add _ _).1 $$ H; icases H with ⟨H1, H3⟩
  ihave H1 := (cred_add _ _).1 $$ H1; icases H1 with ⟨H1, H2⟩
  ihave H2 := (cred_add _ _).1 $$ H2; icases H2 with ⟨K0, H2⟩
  ihave H2 := (cred_add _ _).1 $$ H2; icases H2 with ⟨K1, H2⟩
  ihave H2 := (cred_add _ _).1 $$ H2; icases H2 with ⟨K2, K3⟩
  ihave H3 := (cred_add _ _).1 $$ H3; icases H3 with ⟨C0, H3⟩
  ihave H3 := (cred_add _ _).1 $$ H3; icases H3 with ⟨C1, C2⟩
  isplitl [H1]; · iexact H1
  isplitl [K0 K1 K2 K3]
  · isplitl [K0]; · iapply (crd_of c 0 0) $$ K0
    isplitl [K1]; · iapply (crd_of c 0 1) $$ K1
    isplitl [K2]; · iapply (crd_of c 1 0) $$ K2
    iapply (crd_of c 1 1) $$ K3
  isplitl [C0]; · iexact C0
  isplitl [C1]; · iexact C1
  iexact C2

/-! ## What a device starts the region from -/

/-- Everything but the counters of its own cells. -/
def init0 (c : Dev nD) : sProp 𝕄 :=
  iprop(barIn c ∗ every (fun j => openTok ER (oc c j)) ∗ kvToks c ∗ (crd c 0 0 ∗ crd c 0 1 ∗ crd c 1 0 ∗ crd c 1 1) ∗ (oT c 0 ∗ oT c 1 ∗ oT c 2))

theorem init0_start (c : Dev nD) : iprop(init0 (F := F) c ∗ every (fun j => semVal (oc c j) 0)) ⊢ start c := by
  unfold init0 start dorm
  iintro ⟨⟨HB, HE, HK, HC, HO⟩, HZ⟩
  isplitl [HB]; · iexact HB
  isplitl [HE HZ]
  · iapply (every_sep (fun j => openTok ER (oc c j)) (fun j => semVal (oc c j) 0))
    isplitl [HE]; · iexact HE
    iexact HZ
  isplitl [HK]; · iexact HK
  isplitl [HC]; · iexact HC
  iexact HO

theorem init0_intro (c : Dev nD) :
    iprop(atPos ER (bc c) 0 ∅ 0 ∗ every (fun j => openTok ER (oc c j)) ∗ (barT c ∗ kvToks c ∗ outT c) ∗ Pipeline.launchCred O₀ c) ⊢ init0 (F := F) c := by
  unfold init0 barIn barT outT oT
  iintro ⟨Ha, HE, ⟨HB, HK, ⟨O0, O1, O2⟩, I0, I1, I2⟩, HC⟩
  ihave HC' := (credits (F := F) c) $$ HC
  unfold outC
  icases HC' with ⟨C3, CK, C0, C1, C2⟩
  isplitl [Ha HB C3]
  · isplitl [Ha]; · iexact Ha
    isplitl [C3]; · iexact C3
    iexact HB
  isplitl [HE]; · iexact HE
  isplitl [HK]; · iexact HK
  isplitl [CK]; · iexact CK
  isplitl [O0 I0 C0]
  · isplitl [O0]; · iexact O0
    isplitl [I0]; · iexact I0
    iexact C0
  isplitl [O1 I1 C1]
  · isplitl [O1]; · iexact O1
    isplitl [I1]; · iexact I1
    iexact C1
  isplitl [O2]; · iexact O2
  isplitl [I2]; · iexact I2
  iexact C2

/-- THE FUNDING: every barrier counter at zero and the launch element make every cell's invariant and what each device starts from. -/
theorem fund :
    iprop((bigSep Finset.univ fun c : Dev nD => (semVal (bc c) 0 : sProp 𝕄)) ∗ (bigSep Finset.univ fun c : Dev nD => Pipeline.launchCred O₀ c)
        ∗ BI.own (ER (launchOf liveCells lateCells duties)))
      ⊢ (|={Set.univ}=> ∃ κ, recs m κ ∗ bigSep Finset.univ fun c : Dev nD => init0 c : sProp 𝕄) := by
  iintro ⟨Hv, Hc, Hu⟩
  imod (Rounds.fund_launch ER (sch m) cells_disjoint (fun g _ h => h) duties) $$ [Hv Hu] with ⟨%κ, -, Hinv, Hr, Hat, Hopen, Htok⟩
  · isplitl [Hv]
    · iapply (show (bigSep Finset.univ fun c : Dev nD => (semVal (bc c) 0 : sProp 𝕄)) ⊢ (bigSep liveCells fun g => (semVal g 0 : sProp 𝕄)) from Entails.of_eq (bigSep_map (s := Finset.univ) barEmb (Φ := fun g : GSem nD τ sig => (semVal g 0 : sProp 𝕄))).symm) $$ Hv
    · iexact Hu
  imodintro
  iexists κ
  isplitl [Hinv Hr]
  · unfold recs
    ihave Hi := (show (bigSep (liveCells ∪ lateCells) fun g => cellInv ER (sch m) (κ g) g) ⊢ iprop((bigSep liveCells fun g => cellInv ER (sch m) (κ g) g) ∗ bigSep lateCells fun g => cellInv ER (sch m) (κ g) g) from Entails.of_eq (bigSep_union (Φ := fun g : GSem nD τ sig => cellInv ER (sch m) (κ g) g) cells_disjoint)) $$ Hinv
    icases Hi with ⟨H1, H2⟩
    isplitl [H1]; · iapply (show (bigSep liveCells fun g => cellInv ER (sch m) (κ g) g) ⊢ (bigSep Finset.univ fun c : Dev nD => cellInv ER (sch m) (κ (bc c)) (bc c)) from Entails.of_eq (bigSep_map (s := Finset.univ) barEmb (Φ := fun g : GSem nD τ sig => cellInv ER (sch m) (κ g) g))) $$ H1
    isplitl [H2]; · iapply (show (bigSep lateCells fun g => cellInv ER (sch m) (κ g) g) ⊢ (bigSep Finset.univ fun cj : Dev nD × Fin 18 => cellInv ER (sch m) (κ (oc cj.1 cj.2)) (oc cj.1 cj.2)) from Entails.of_eq (bigSep_map (s := Finset.univ) ownEmb (Φ := fun g : GSem nD τ sig => cellInv ER (sch m) (κ g) g))) $$ H2
    iapply (show (bigSep liveCells fun g => (reached ER g 0 : sProp 𝕄)) ⊢ (bigSep Finset.univ fun c : Dev nD => (reached ER (bc c) 0 : sProp 𝕄)) from Entails.of_eq (bigSep_map (s := Finset.univ) barEmb (Φ := fun g : GSem nD τ sig => (reached ER g 0 : sProp 𝕄)))) $$ Hr
  have hopen : bigSep lateCells (fun g => (openTok ER g : sProp 𝕄)) ⊢ bigSep Finset.univ fun c : Dev nD => every fun j => (openTok ER (oc c j) : sProp 𝕄) := by
    rw [bigSep_map, bigSep_univ_prod]
    exact bigSep_mono fun c _ => every_of _
  have hall : iprop((bigSep Finset.univ fun c : Dev nD => (atPos ER (bc c) 0 ∅ 0 : sProp 𝕄))
        ∗ (bigSep Finset.univ fun c : Dev nD => every fun j => (openTok ER (oc c j) : sProp 𝕄))
        ∗ (bigSep Finset.univ fun c : Dev nD => iprop(barT (F := F) c ∗ kvToks c ∗ outT c)) ∗ bigSep Finset.univ fun c : Dev nD => (Pipeline.launchCred O₀ c : sProp 𝕄))
      ⊢ bigSep Finset.univ fun c : Dev nD => init0 (F := F) c := by
    rw [← bigSep_sep', ← bigSep_sep', ← bigSep_sep']
    exact bigSep_mono fun c _ => init0_intro c
  iapply hall
  isplitl [Hat]
  · iapply (show (bigSep liveCells fun g => (atPos ER g 0 ∅ 0 : sProp 𝕄)) ⊢ (bigSep Finset.univ fun c : Dev nD => (atPos ER (bc c) 0 ∅ 0 : sProp 𝕄)) from Entails.of_eq (bigSep_map (s := Finset.univ) barEmb (Φ := fun g : GSem nD τ sig => (atPos ER g 0 ∅ 0 : sProp 𝕄)))) $$ Hat
  isplitl [Hopen]; · iapply hopen $$ Hopen
  isplitl [Htok]; · iapply (duties_minted.trans tokens_deal) $$ Htok
  iexact Hc

end Cert.KernelIdeal.Talk
-- ==== Proof.KI.Region.lean ====
/- The kernel's region, the host's transposes and the whole launch. -/
module

public import proofs.«01_k».proof.Proof.KI.Deal

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The proof data -/

abbrev adm : (p : Fin 1) → (pcfgs (F := F) p).Adm := fun p => (cfgs p).toPCfg_adm

/-- What the region is entered with, beside its arrays. -/
def entry (c : Dev nD) : sProp 𝕄 := iprop(∃ κ, recs m κ ∗ init0 c)
/-- The same once the kernel's own counters are here. -/
def opened (c : Dev nD) : sProp 𝕄 := iprop((∃ κ, recs m κ ∗ start c) ∗ levAts L lv)
/-- What is left of the barrier cell. -/
def left (c : Dev nD) : sProp 𝕄 := iprop(∃ κ, recs m κ ∗ atPos ER (bc c) (0 + 1) ∅ 0)
/-- The kernel's two scratch buffers at any contents, and the generator register. -/
def room (c : Dev nD) : sProp 𝕄 := iprop((any c sM ∗ any c pM) ∗ ∃ r, prngReg c r)

def dats (c : Dev nD) : Dat τ (Elt F) Unit ℕ UU ℕ cfg0 c where
  A w := V m c (Pipeline.arrRef spec0 w)
  after w t := match w with
    | ⟨5, _⟩ => outS m c
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := if t.val = 0 then iprop(opened m c ∗ room c) else iprop(left m c ∗ every (fun j => semVal (oc c j) 0) ∗ room c)
  q _ := fullShare
  owed t := if t.val = 0 then O₀ c else 0

def pdats : (p : Fin 1) → (c : Dev nD) → Dat τ (Elt F) Unit ℕ UU ℕ (Pipeline.pin (pcfgs (F := F)) adm p) c
  | 0 => dats m

theorem owed_first (c : Dev nD) : (dats (F := F) m c).owed t0_0.castSucc = O₀ c := by
  show (if (0 : ℕ) = 0 then O₀ c else 0) = O₀ c; exact if_pos rfl
theorem owed_last (c : Dev nD) : (dats (F := F) m c).owed t0_0.succ = 0 := by
  show (if (1 : ℕ) = 0 then O₀ c else 0) = 0; exact if_neg (by decide)
theorem phi_first (c : Dev nD) : (dats (F := F) m c).Φ t0_0.castSucc = iprop(opened m c ∗ room c) := by
  show (if (0 : ℕ) = 0 then iprop(opened m c ∗ room c) else iprop(left m c ∗ every (fun j => semVal (oc c j) 0) ∗ room c)) = _; exact if_pos rfl
theorem phi_last (c : Dev nD) : (dats (F := F) m c).Φ t0_0.succ = iprop(left m c ∗ every (fun j => semVal (oc c j) 0) ∗ room c) := by
  show (if (1 : ℕ) = 0 then iprop(opened m c ∗ room c) else iprop(left m c ∗ every (fun j => semVal (oc c j) 0) ∗ room c)) = _; exact if_neg (by decide)

/-- The record a point owes, once the tally there is named. -/
theorem owe_give (c : Dev nD) (t : Fin (cfg0.N + 1)) (O : CellTallies nD τ sig Unit) (h : (dats (F := F) m c).owed t = O) :
    (owe c O : sProp 𝕄) ⊢ (dats (F := F) m c).owesAt () t := by
  unfold owe Dat.owesAt Pipeline.owesWithin Dat.bound
  rw [h]
  iintro ⟨%W, HO⟩; iexists W
  isplitr; · ipureintro; exact fun _ _ => Or.inl trivial
  iexact HO
theorem owe_take (c : Dev nD) (t : Fin (cfg0.N + 1)) (O : CellTallies nD τ sig Unit) (h : (dats (F := F) m c).owed t = O) :
    ((dats (F := F) m c).owesAt () t : sProp 𝕄) ⊢ owe c O := by
  unfold owe Dat.owesAt Pipeline.owesWithin
  rw [h]
  iintro ⟨%W, -, HO⟩; iexists W; iexact HO

theorem found0 (c : Dev nD) (t : Fin cfg0.N) (d) : (dats (F := F) m c).before 0 t d = iblk m c 0 t :=
  ((dats (F := F) m c).before_in_eq_fetched 0 rfl (fun _ => rfl) (fun _ _ _ => rfl) (fun t => rfl) t d).trans rfl
theorem found1 (c : Dev nD) (t : Fin cfg0.N) (d) : (dats (F := F) m c).before 1 t d = iblk m c 1 t :=
  ((dats (F := F) m c).before_in_eq_fetched 1 rfl (fun _ => rfl) (fun _ _ _ => rfl) (fun t => rfl) t d).trans rfl
theorem found2 (c : Dev nD) (t : Fin cfg0.N) (d) : (dats (F := F) m c).before 2 t d = iblk m c 2 t :=
  ((dats (F := F) m c).before_in_eq_fetched 2 rfl (fun _ => rfl) (fun _ _ _ => rfl) (fun t => rfl) t d).trans rfl
theorem found3 (c : Dev nD) (t : Fin cfg0.N) (d) : (dats (F := F) m c).before 3 t d = iblk m c 3 t :=
  ((dats (F := F) m c).before_in_eq_fetched 3 rfl (fun _ => rfl) (fun _ _ _ => rfl) (fun t => rfl) t d).trans rfl
theorem found4 (c : Dev nD) (t : Fin cfg0.N) (d) : (dats (F := F) m c).before 4 t d = iblk m c 4 t :=
  ((dats (F := F) m c).before_in_eq_fetched 4 rfl (fun _ => rfl) (fun _ _ _ => rfl) (fun t => rfl) t d).trans rfl

/-- The pipeline's body at its one point is the kernel's body. -/
theorem obligation (c : Dev nD) : BodyObligation (dats (F := F) m c) defs₀ 𝒱₀ () Set.univ := fun t => by
  obtain rfl := fin_N0 t
  rw [bigSep_W0, bigSep_W0, phi_first, phi_last]
  show iprop((opened m c ∗ room c) ∗ (dats m c).owesAt () t0_0.castSucc
      ∗ (∃ d, owns (c : Thread nD τ) (Memref.whole cc0_stg0_0) fullShare ((dats m c).before 0 t0_0 d))
      ∗ (∃ d, owns (c : Thread nD τ) (Memref.whole cc0_stg1_0) fullShare ((dats m c).before 1 t0_0 d))
      ∗ (∃ d, owns (c : Thread nD τ) (Memref.whole cc0_stg2_0) fullShare ((dats m c).before 2 t0_0 d))
      ∗ (∃ d, owns (c : Thread nD τ) (Memref.whole cc0_stg3_0) fullShare ((dats m c).before 3 t0_0 d))
      ∗ (∃ d, owns (c : Thread nD τ) (Memref.whole cc0_stg4_0) fullShare ((dats m c).before 4 t0_0 d))
      ∗ (∃ d, owns (c : Thread nD τ) (Memref.whole cc0_stg5_0) fullShare ((dats m c).before 5 t0_0 d)))
    ⊢ wp frame (wpE (defs₀ (F := F)) 𝒱₀ (c : Thread nD τ) none) Set.univ (body (F := F)) (fun _ =>
        iprop((left m c ∗ every (fun j => semVal (oc c j) 0) ∗ room c) ∗ (dats m c).owesAt () t0_0.succ
          ∗ owns (c : Thread nD τ) (Memref.whole cc0_stg0_0) fullShare (xS m c)
          ∗ owns (c : Thread nD τ) (Memref.whole cc0_stg1_0) fullShare (wqS m c)
          ∗ owns (c : Thread nD τ) (wM 0) fullShare (kvS m 0 c)
          ∗ owns (c : Thread nD τ) (wM 1) fullShare (kvS m 1 c)
          ∗ owns (c : Thread nD τ) (Memref.whole cc0_stg4_0) fullShare (woS m c)
          ∗ owns (c : Thread nD τ) (Memref.whole cc0_stg5_0) fullShare (outS m c)))
  iintro ⟨⟨HX, HR⟩, HO, ⟨%d0, H0⟩, ⟨%d1, H1⟩, ⟨%d2, H2⟩, ⟨%d3, H3⟩, ⟨%d4, H4⟩, ⟨%d5, H5⟩⟩
  unfold opened room
  icases HX with ⟨⟨%κ, #Hr, HS⟩, #HL⟩
  icases HR with ⟨⟨Hs, Hp⟩, Hg⟩
  ihave HO := (owe_take m c t0_0.castSucc (O₀ c) (owed_first m c)) $$ HO
  ihave H0 := (Entails.of_eq (congrArg (owns (c : Thread nD τ) (Memref.whole cc0_stg0_0) fullShare) (found0 m c t0_0 d0))) $$ H0
  ihave H1 := (Entails.of_eq (congrArg (owns (c : Thread nD τ) (Memref.whole cc0_stg1_0) fullShare) (found1 m c t0_0 d1))) $$ H1
  ihave H2 := (Entails.of_eq (congrArg (owns (c : Thread nD τ) (Memref.whole cc0_stg2_0) fullShare) (found2 m c t0_0 d2))) $$ H2
  ihave H3 := (Entails.of_eq (congrArg (owns (c : Thread nD τ) (Memref.whole cc0_stg3_0) fullShare) (found3 m c t0_0 d3))) $$ H3
  ihave H4 := (Entails.of_eq (congrArg (owns (c : Thread nD τ) (Memref.whole cc0_stg4_0) fullShare) (found4 m c t0_0 d4))) $$ H4
  iapply (body_all m κ c) $$ [HS HL HO Hs Hp H0 H1 H2 H3 H4 H5]
  · isplitr; · iexact Hr
    isplitr; · iexact HL
    isplitl [HO]; · iexact HO
    isplitl [H0 H1 H2 H3 H4]
    · unfold ins
      isplitl [H0]; · iexact H0
      isplitl [H1]; · iexact H1
      isplitl [H2]; · iexact H2
      isplitl [H3]; · iexact H3
      iexact H4
    isplitl [H5]
    · unfold any; iexists _; iexact H5
    isplitl [Hs]; · iexact Hs
    isplitl [Hp]; · iexact Hp
    iexact HS
  iintro ⟨HO, HI, H5, Hs, Hp, HB, HE⟩
  isplitl [HB HE Hs Hp Hg]
  · isplitl [HB]
    · unfold left; iexists κ
      isplitr; · iexact Hr
      iexact HB
    isplitl [HE]; · iexact HE
    isplitl [Hs Hp]
    · isplitl [Hs] <;> iassumption
    iexact Hg
  isplitl [HO]
  · iapply (owe_give m c t0_0.succ 0 (owed_last m c)); iexact HO
  unfold ins
  icases HI with ⟨H0, H1, H2, H3, H4⟩
  isplitl [H0]; · iexact H0
  isplitl [H1]; · iexact H1
  isplitl [H2]; · iexact H2
  isplitl [H3]; · iexact H3
  isplitl [H4]; · iexact H4
  iexact H5

/-! ## The region -/

/-- The kernel's own semaphores. -/
abbrev osem : Fin 18 → SemLoc sig := fun j => .dma (ow j)

theorem cells_inj : Function.Injective (Pipeline.cellOf (nD := nD) (τ := τ) (Pipeline.pin (pcfgs (F := F)) adm)) :=
  Gen.cellOf_inj

theorem facts0 : Pipeline.PLaunchFacts (nD := nD) (τ := τ) (pcfgs (F := F)) 0 where
  cellOf_inj a := by rw [Subsingleton.elim a adm]; exact cells_inj
  win := winFacts0
  pre := Pipeline.PreFacts.none _
  block_pos := block_pos0
  arr_whole := arr_whole0
  stage_whole := stage_whole0

theorem own_counters (c : Dev nD) : (Pipeline.ownSems0 osem c : sProp 𝕄) ⊢ every (fun j => semVal (oc c j) 0) := by
  unfold Pipeline.ownSems0
  exact every_of (fun j => (semVal (oc c j) 0 : sProp 𝕄))
theorem counters_own (c : Dev nD) : (every (fun j => semVal (oc c j) 0) : sProp 𝕄) ⊢ Pipeline.ownSems0 osem c := by
  unfold Pipeline.ownSems0
  exact every_all (fun j => (semVal (oc c j) 0 : sProp 𝕄))

theorem rest_eq (c : Dev nD) : (Pipeline.scopedRest spec0 c : sProp 𝕄) = iprop(any c sM ∗ any c pM) := by
  rw [scopedRest0_eq c]
  unfold any
  rw [show (fun v => (owns (c : Thread nD τ) sM fullShare v : sProp 𝕄)) = fun v => ((c : Thread nD τ).loc cc0_scratch0) ↦{fullShare} v from
      funext fun v => owns_whole (c : Thread nD τ) cc0_scratch0 fullShare v,
    show (fun v => (owns (c : Thread nD τ) pM fullShare v : sProp 𝕄)) = fun v => ((c : Thread nD τ).loc cc0_scratch1) ↦{fullShare} v from
      funext fun v => owns_whole (c : Thread nD τ) cc0_scratch1 fullShare v]

theorem open_entry (c : Dev nD) : iprop(entry m c ∗ Pipeline.ownSems0 osem c ∗ levAts L lv) ⊢ (|={Set.univ}=> opened m c : sProp 𝕄) := by
  unfold entry opened
  iintro ⟨⟨%κ, #Hr, HI⟩, Hs, #HL⟩
  imodintro
  isplitl
  · iexists κ
    isplitr; · iexact Hr
    iapply (init0_start c)
    isplitl [HI]; · iexact HI
    iapply (own_counters c) $$ Hs
  iexact HL

theorem close_left (c : Dev nD) : left m c ⊢ (|={Set.univ}=> semVal (bc c) 0 : sProp 𝕄) := by
  unfold left
  iintro ⟨%κ, #Hr, HB⟩
  iapply (cell_close ER (sch m) (g := bc c) (κ := κ (bc c)) (Es := Set.univ) trivial (by simp [sch]) (R := 0 + 1) (fun r hr => duties_later m (bc c) r hr))
  isplitr
  · iapply (recs_bc m κ c); iexact Hr
  iexact HB

/-- The contents the host's transposes start from, those the region finds, and those it leaves. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v3) ((dats m c).arrAt 5 cfg0.N)

/-- The two buffers only the host's transposes read. -/
abbrev others : Finset (DevRef τ sig) := Pipeline.ucRefs τ sig \ Pipeline.arrRefs (τ := τ) spec0

theorem V₂_other (c : Dev nD) (b : DevRef τ sig) (h : b ≠ Proc.devRef .tc main_v3) : V₂ m c b = V₁ m c b := Function.update_of_ne h _ _
theorem V₂_out (c : Dev nD) : V₂ m c (Proc.devRef .tc main_v3) = (dats m c).arrAt 5 cfg0.N := Function.update_self _ _ _

theorem out_mem : (Proc.devRef .tc main_v3 : DevRef τ sig) ∈ Pipeline.arrRefs (τ := τ) spec0 := by decide

theorem arr_end (c : Dev nD) (w : Fin cfg0.W) : (dats (F := F) m c).arrAt w cfg0.N = V₂ m c (Proc.devRef .tc (Pipeline.arrRef spec0 w)) := by
  obtain ⟨w, hw⟩ := w
  rcases w with _ | _ | _ | _ | _ | _ | w
  · exact ((dats m c).arrAt_in 0 rfl _).trans (V₂_other m c (Proc.devRef .tc (Pipeline.arrRef spec0 0)) (by decide)).symm
  · exact ((dats m c).arrAt_in 1 rfl _).trans (V₂_other m c (Proc.devRef .tc (Pipeline.arrRef spec0 1)) (by decide)).symm
  · exact ((dats m c).arrAt_in 2 rfl _).trans (V₂_other m c (Proc.devRef .tc (Pipeline.arrRef spec0 2)) (by decide)).symm
  · exact ((dats m c).arrAt_in 3 rfl _).trans (V₂_other m c (Proc.devRef .tc (Pipeline.arrRef spec0 3)) (by decide)).symm
  · exact ((dats m c).arrAt_in 4 rfl _).trans (V₂_other m c (Proc.devRef .tc (Pipeline.arrRef spec0 4)) (by decide)).symm
  · exact (V₂_out m c).symm
  · exact absurd (show w + 6 < 6 from hw) (by omega)

theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨h1, h2⟩ := O₀_above c g i h
    refine ⟨?_, h2⟩
    obtain ⟨⟨d, p⟩, sm⟩ := g
    obtain rfl : p = .tc := h1
    rw [L_tc]; exact Finset.mem_singleton_self _
  · exact absurd h (Nat.lt_irrefl 0)

theorem enter₀ (c : Dev nD) : iprop(Pipeline.scopedRest spec0 c ∗ (∃ r, prngReg c r) ∗ StableHlo.held (c.tc : Thread nD τ) ∅ (V₁ m c) ∗ opened m c)
    ⊢ (dats m c).Φ t0_0.castSucc := by
  rw [phi_first, rest_eq]
  unfold room
  iintro ⟨Hs, Hg, -, HX⟩
  isplitl [HX]; · iexact HX
  isplitl [Hs]; · iexact Hs
  iexact Hg

theorem leave₀ (c : Dev nD) : (dats m c).Φ t0_0.succ
    ⊢ iprop(Pipeline.scopedRest spec0 c ∗ (∃ r, prngReg c r) ∗ StableHlo.held (c.tc : Thread nD τ) ∅ (V₂ m c) ∗ Pipeline.ownSems0 osem c ∗ left m c) := by
  rw [phi_last, rest_eq]
  unfold room
  iintro ⟨HB, HE, Hs, Hg⟩
  isplitl [Hs]; · iexact Hs
  isplitl [Hg]; · iexact Hg
  isplitr
  · unfold StableHlo.held
    rw [BI.bigSep_empty]; iempintro
  isplitl [HE]
  · iapply (counters_own c) $$ HE
  iexact HB

theorem enter (c : Dev nD) : iprop(Pipeline.scopedRest (Pipeline.pin (pcfgs (F := F)) adm 0).spec c ∗ (∃ r, prngReg c r)
      ∗ StableHlo.held (c.tc : Thread nD τ) ∅ (V₁ m c) ∗ opened m c)
    ⊢ (pdats m 0 c).Φ 0 := enter₀ m c
theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
        ∗ StableHlo.held (c.tc : Thread nD τ) ∅ (V₂ m c) ∗ Pipeline.ownSems0 osem c ∗ left m c) := leave₀ m c

theorem staging_low : ∀ (c : Dev nD) (w : Fin (Pipeline.pin (pcfgs (F := F)) adm 0).W) (s : Fin ((Pipeline.pin (pcfgs (F := F)) adm 0).win w).nbuf),
    lv ((c : Thread nD τ), .dma (((Pipeline.pin (pcfgs (F := F)) adm 0).win w).sem s)) () ≤ 0 :=
  fun c w s => (by decide : ∀ (w : Fin cfg0.W) (s : Fin (cfg0.win w).nbuf), lv (((0 : Dev nD) : Thread nD τ), .dma ((cfg0.win w).sem s)) () ≤ 0) w s

set_option maxHeartbeats 2000000 in
set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) facts0 rfl (fun c => (obligation m c).loose)
    (fun _ => 0) O₀ (fun c => (owed_first m c).trans (zero_add _).symm) (owed_last m) (fun _ => rfl)
    (fun c w => by show (if _ then fullShare else fullShare) = fullShare; exact ite_self _)
    (V₁ m) (V₂ m) (fun c b hb => V₂_other m c b (by
      rintro rfl
      exact (Finset.mem_sdiff.mp (Finset.mem_sdiff.mp hb).1).2 out_mem))
    (entry m) (fun c => semVal (bc c) 0) (opened m) (left m) (open_entry m)
    (enter m) (leave m)
    (close_left m)
    (fun _ => 0)
    ⟨fun c w s => by rw [L_tc]; exact Finset.mem_singleton_self _, staging_low, fun c t g i h => cut m c t g i h⟩
    (fun _ => iprop(emp))
    (fun _ _ => rfl) (arr_end m)

end Cert.KernelIdeal.Talk

end
-- ==== Proof.KI.Launch.lean ====
/- The host's transposes, the region and the run of all four devices. -/
module

public import proofs.«01_k».proof.Proof.KI.Region

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-- What goes through the host's operations untouched. -/
def along (c : Dev nD) : sProp 𝕄 := iprop(entry m c ∗ (∃ r, prngReg c r) ∗ owe c (O₀ c))

def host : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) (along m)

theorem arrays_sub : Pipeline.arrRefs (τ := τ) spec0 ⊆ Pipeline.ucRefs τ sig := by decide

theorem region_pre (c : Dev nD) : iprop(StableHlo.held (c : Thread nD τ) (Pipeline.ucRefs τ sig) (V₁ m c) ∗ along m c) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ entry m c ∗ ∃ Wd, owes (c : Thread nD τ) (0 + O₀ c) Wd)
  rw [zero_add, StableHlo.held_sub_split (c : Thread nD τ) arrays_sub (V₁ m c)]
  unfold along owe
  iintro ⟨⟨Ha, Ho⟩, HE, Hg, HO⟩
  isplitl [Ha]; · iexact Ha
  isplitl [Hg]; · iexact Hg
  isplitl [Ho]
  · isplitl [Ho]; · iexact Ho
    iempintro
  isplitl [HE]; · iexact HE
  iexact HO

theorem region_post (c : Dev nD) : (region m).post c
    ⊢ iprop((StableHlo.held (c : Thread nD τ) (Pipeline.ucRefs τ sig) (V₂ m c) ∗ semVal (bc c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ semVal (bc c) 0 ∗ ∃ Wd, owes (c : Thread nD τ) (0 : CellTallies nD τ sig Unit) Wd) ⊢ _
  rw [StableHlo.held_sub_split (c : Thread nD τ) arrays_sub (V₂ m c)]
  iintro ⟨Ha, -, ⟨Ho, -⟩, Hb, HO⟩
  isplitr [HO]
  · isplitl [Ha Ho]
    · isplitl [Ha] <;> iassumption
    iexact Hb
  iexact HO

def segs : List (Pipeline.Seg (pcfgs (F := F)) adm (pdats m) () defs₀ 𝒱₀ L lv) := [.host (host m), .region (region m)]

theorem main_is (c : Dev nD) : main (F := F) c = Pipeline.Seg.run (segs m) :=
  Gen.main_segs adm (pdats m) () 𝒱₀ L lv (host m) (region m) rfl c

/-! ## The launch -/

def launched : UU :=
  (initOf (Pipeline.cells (Pipeline.pin (pcfgs (F := F)) adm) cells_inj) (Pipeline.launchToks (Pipeline.pin (pcfgs (F := F)) adm) cells_inj),
    launchOf liveCells lateCells duties)

/-- The talk's launch element, kept by device 0 until all is dealt. -/
def parked (c : Dev nD) : sProp 𝕄 := if c = 0 then BI.own (ER (launchOf liveCells lateCells duties)) else iprop(emp)

theorem parked_all : bigSep Finset.univ (parked (F := F)) = BI.own (ER (launchOf liveCells lateCells duties)) := by
  rw [bigSep_univ_at _ 0, bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

theorem only_barrier (c : Dev nD) : (unscopedSems0 c : sProp 𝕄) = semVal (bc c) 0 := by
  unfold unscopedSems0
  rw [show (Finset.univ.filter fun sm : SemLoc sig => ¬ sm.isScoped .tc) = {SemLoc.reg barS} from by decide, BI.bigSep_singleton]

abbrev first (c : Dev nD) : sProp 𝕄 := iprop(StableHlo.held (c : Thread nD τ) (Pipeline.ucRefs τ sig) (V₀ m c) ∗ along m c)
abbrev final (c : Dev nD) : sProp 𝕄 := iprop(StableHlo.held (c : Thread nD τ) (Pipeline.ucRefs τ sig) (V₂ m c) ∗ semVal (bc c) 0)

/-- A device's launch holdings that are not the talk's. -/
def own (c : Dev nD) : sProp 𝕄 :=
  iprop(StableHlo.held (c : Thread nD τ) (Pipeline.ucRefs τ sig) (V₀ m c) ∗ (∃ r, prngReg c r) ∗ owe c (O₀ c))

theorem first_intro (κ : GSem nD τ sig → ℕ) (c : Dev nD) : iprop(recs m κ ∗ (init0 c ∗ own m c)) ⊢ first m c := by
  unfold own first along entry
  iintro ⟨#Hr, HI, Hh, Hg, HO⟩
  isplitl [Hh]; · iexact Hh
  isplitl [HI]
  · iexists κ
    isplitr; · iexact Hr
    iexact HI
  isplitl [Hg] <;> iassumption

theorem dealt :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (first m) : sProp 𝕄) := by
  have hc (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(own m c ∗ (semVal (bc c) 0 ∗ (Pipeline.launchCred O₀ c ∗ parked c))) : sProp 𝕄) := by
    rw [show unscopedBufs c (fun b => m ((c : Thread nD τ).loc b)) = StableHlo.held (c : Thread nD τ) (Pipeline.ucRefs τ sig) (V₀ m c) from
      Pipeline.unscopedBufs_held c (V₀ m c), only_barrier]
    unfold own owe
    iintro ⟨Hh, Hs, HO, Hc, Hg, HP⟩
    isplitl [Hh Hg HO]
    · isplitl [Hh]; · iexact Hh
      isplitl [Hg]
      · iexists (ρ c); iexact Hg
      iexists ∅; iexact HO
    isplitl [Hs]; · iexact Hs
    isplitl [Hc] <;> iassumption
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(own m c ∗ (semVal (bc c) 0 ∗ (Pipeline.launchCred O₀ c ∗ parked c))) : sProp 𝕄)
      from bigSep_mono fun c _ => hc c) $$ H
  ihave H := (Entails.of_eq (bigSep_sep' _ _ _)) $$ H; icases H with ⟨HB, H⟩
  ihave H := (Entails.of_eq (bigSep_sep' _ _ _)) $$ H; icases H with ⟨Hs, H⟩
  ihave H := (Entails.of_eq (bigSep_sep' _ _ _)) $$ H; icases H with ⟨Hc, HP⟩
  ihave Hu := (show bigSep Finset.univ (parked (F := F)) ⊢ BI.own (ER (launchOf liveCells lateCells duties)) from Entails.of_eq parked_all) $$ HP
  imod (fund m) $$ [Hs Hc Hu] with ⟨%κ, #Hr, HI⟩
  · isplitl [Hs]; · iexact Hs
    isplitl [Hc] <;> iassumption
  imodintro
  iapply (bigSep_with_persistent (R := recs m κ) (Φ := fun c => iprop(init0 c ∗ own m c)) fun c _ => first_intro m κ c)
  isplitr; · iexact Hr
  iapply (Entails.of_eq (bigSep_sep' _ _ _).symm)
  isplitl [HI]; · iexact HI
  iexact HB

/-! ## The run -/

/-- A device's unscoped buffers, one by one. -/
theorem held_list (c : Dev nD) (W : Valuation τ sig (Elt F)) : (StableHlo.held (c : Thread nD τ) (Pipeline.ucRefs τ sig) W : sProp 𝕄)
    = iprop((((c : Thread nD τ).loc main_arg0) ↦{fullShare} W main_arg0) ∗ (((c : Thread nD τ).loc main_arg1) ↦{fullShare} W main_arg1) ∗ (((c : Thread nD τ).loc main_arg2) ↦{fullShare} W main_arg2) ∗ (((c : Thread nD τ).loc main_arg3) ↦{fullShare} W main_arg3) ∗ (((c : Thread nD τ).loc main_arg4) ↦{fullShare} W main_arg4) ∗ (((c : Thread nD τ).loc main_v1) ↦{fullShare} W main_v1) ∗ (((c : Thread nD τ).loc main_v2) ↦{fullShare} W main_v2) ∗ (((c : Thread nD τ).loc main_v3) ↦{fullShare} W main_v3)) := by
  unfold StableHlo.held
  rw [bigSep_eq_bigSepL_of_eq [Proc.devRef .tc main_arg0, Proc.devRef .tc main_arg1, Proc.devRef .tc main_arg2, Proc.devRef .tc main_arg3, Proc.devRef .tc main_arg4, Proc.devRef .tc main_v1, Proc.devRef .tc main_v2, Proc.devRef .tc main_v3] (by decide) (by decide)]
  rfl

theorem only_unscoped : ∀ sm : SemLoc sig, sm.isScoped .tc = false → sm = .reg barS := by decide

/-- The result array after the run is the sum the body left. -/
theorem result_end (c : Dev nD) : (win0_5.blk t0_0).view.read (Elt F) ((dats m c).arrAt 5 cfg0.N) = outS m c := by
  rw [show cfg0.N = (t0_0 : Fin cfg0.N).val + 1 from rfl, (dats m c).arrAt_succ 5 t0_0]
  rw [show (cfg0.win 5).flush t0_0 = true from by decide, if_pos rfl]
  exact View.read_write_univ _ _

set_option backward.isDefEq.respectTransparency.types false in
theorem run : θ_run defs (onTc (τ := τ) (main (F := F))) ⟨m, fun _ => 0, ρ⟩
    (fun r => (∀ c : Dev nD, r.2.mem ((c : Thread nD τ).loc main_arg0) = V₂ m c main_arg0 ∧ r.2.mem ((c : Thread nD τ).loc main_arg1) = V₂ m c main_arg1 ∧ r.2.mem ((c : Thread nD τ).loc main_arg2) = V₂ m c main_arg2 ∧ r.2.mem ((c : Thread nD τ).loc main_arg3) = V₂ m c main_arg3 ∧ r.2.mem ((c : Thread nD τ).loc main_arg4) = V₂ m c main_arg4 ∧ r.2.mem ((c : Thread nD τ).loc main_v1) = V₂ m c main_v1 ∧ r.2.mem ((c : Thread nD τ).loc main_v2) = V₂ m c main_v2 ∧ r.2.mem ((c : Thread nD τ).loc main_v3) = V₂ m c main_v3) ∧ r.2.sem = fun _ => 0) :=
  Pipeline.θ_run_regions_kit_sems (pcfgs (F := F)) adm (pdats m) () cells_inj EP defs₀ 𝒱₀ L lv m ρ main (segs m)
    (fun c Q => by rw [main_is m c])
    (by simp only [segs, Pipeline.Seg.pipes_host, Pipeline.Seg.pipes_region, Pipeline.Seg.pipes_nil]; decide)
    (O₀ := O₀) (hL := L_of_ne) (G := parked (F := F)) (u₀ := launched (F := F))
    (hu₀ := by
      unfold launched
      iintro Hu
      ihave H := (ownU_pair _ _) $$ Hu
      icases H with ⟨HP, HX⟩
      imodintro
      isplitl [HP]; · iexact HP
      rw [parked_all (F := F)]; iexact HX)
    (T₀ := first m) (Tₙ := final m)
    (hch := ⟨fun c => .rfl, fun c => region_pre m c, fun c => region_post m c⟩)
    (hinit := dealt m ρ)
    (QY := fun c s => (s.mem ((c : Thread nD τ).loc main_arg0) = V₂ m c main_arg0 ∧ s.mem ((c : Thread nD τ).loc main_arg1) = V₂ m c main_arg1 ∧ s.mem ((c : Thread nD τ).loc main_arg2) = V₂ m c main_arg2 ∧ s.mem ((c : Thread nD τ).loc main_arg3) = V₂ m c main_arg3 ∧ s.mem ((c : Thread nD τ).loc main_arg4) = V₂ m c main_arg4 ∧ s.mem ((c : Thread nD τ).loc main_v1) = V₂ m c main_v1 ∧ s.mem ((c : Thread nD τ).loc main_v2) = V₂ m c main_v2 ∧ s.mem ((c : Thread nD τ).loc main_v3) = V₂ m c main_v3)
      ∧ s.sem (bc c) = 0)
    (hfin := fun c s' => by
      dsimp only [final]; rw [held_list]
      iintro ⟨⟨⟨H0, H1, H2, H3, H4, H5, H6, H7⟩, Hb⟩, HSI⟩
      icombine HSI H0 gives %h0
      icombine HSI H1 gives %h1
      icombine HSI H2 gives %h2
      icombine HSI H3 gives %h3
      icombine HSI H4 gives %h4
      icombine HSI H5 gives %h5
      icombine HSI H6 gives %h6
      icombine HSI H7 gives %h7
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7⟩, by simpa using hb⟩
      iexact HSI)
    (hQ := fun s h hs => ⟨fun c => (h c).1,
      sem_eq_zero hs fun c sm hsm => by
        obtain rfl := only_unscoped sm hsm
        exact (h c).2⟩)

/-- Every argument array ends as it began. -/
theorem kept (c : Dev nD) : V₂ m c main_arg0 = m ((c : Thread nD τ).loc main_arg0) ∧ V₂ m c main_arg1 = m ((c : Thread nD τ).loc main_arg1) ∧ V₂ m c main_arg2 = m ((c : Thread nD τ).loc main_arg2) ∧ V₂ m c main_arg3 = m ((c : Thread nD τ).loc main_arg3) ∧ V₂ m c main_arg4 = m ((c : Thread nD τ).loc main_arg4) :=
  ⟨(V₂_other m c _ (by decide)).trans (V_main_arg0 m c),
    (V₂_other m c _ (by decide)).trans (V_main_arg1 m c),
    (V₂_other m c _ (by decide)).trans (V_main_arg2 m c),
    (V₂_other m c _ (by decide)).trans (V_main_arg3 m c),
    (V₂_other m c _ (by decide)).trans (V_main_arg4 m c)⟩

/-- The run, read at the arguments, the result and the counters. -/
theorem run_main : θ_run defs (onTc (τ := τ) (main (F := F))) ⟨m, fun _ => 0, ρ⟩
    (fun r => (∀ c : Dev nD, r.2.mem ((c : Thread nD τ).loc main_v3) = (dats m c).arrAt 5 cfg0.N
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4)) ∧ r.2.sem = fun _ => 0) :=
  (θ_run defs _ _).mono (fun r h => ⟨fun c => by
    obtain ⟨h0, h1, h2, h3, h4, -, -, h7⟩ := h.1 c
    obtain ⟨k0, k1, k2, k3, k4⟩ := kept m c
    exact ⟨h7.trans (V₂_out m c), h0.trans k0, h1.trans k1, h2.trans k2, h3.trans k3, h4.trans k4⟩, h.2⟩) (run m ρ)

end Cert.KernelIdeal.Talk

end
-- ==== Proof.Val.Blocks.lean ====
module

public import proofs.«01_k».proof.Proof.KI.Launch
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen Cert.KernelIdeal.Talk Idealize.ShloMosaic Idealize.ShloMosaic.TcCoe Idealize.SL.Sem

variable (m : (ℓ : Loc nD τ sig) → Buf (Elt Ideal) ℓ)

/-! ## The argument arrays of a device, as arrays of extended reals -/

abbrev xA (c : Dev nD) : S2x128x512.Idx → EReal := m ((c.tc : Thread nD τ).loc main_arg0)
abbrev wA (c : Dev nD) : S512x256.Idx → EReal := m ((c.tc : Thread nD τ).loc main_arg1)
abbrev kA (c : Dev nD) : S2x128x16x64.Idx → EReal := m ((c.tc : Thread nD τ).loc main_arg2)
abbrev vA (c : Dev nD) : S2x128x16x64.Idx → EReal := m ((c.tc : Thread nD τ).loc main_arg3)
abbrev oA (c : Dev nD) : S256x512.Idx → EReal := m ((c.tc : Thread nD τ).loc main_arg4)

theorem idx0 : win0_0.index t0_0 = ![0, 0, 0] := by decide +kernel
theorem idx1 : win0_1.index t0_0 = ![0, 0] := by decide +kernel
theorem idx2 : win0_2.index t0_0 = ![0, 0, 0, 0] := by decide +kernel
theorem idx3 : win0_3.index t0_0 = ![0, 0, 0, 0] := by decide +kernel
theorem idx4 : win0_4.index t0_0 = ![0, 0] := by decide +kernel
theorem idx5 : win0_5.index t0_0 = ![0, 0, 0] := by decide +kernel

theorem xS_at (c : Dev nD) (a : Fin 2) (b : Fin 128) (d : Fin 512) : xS (F := Ideal) m c (ix3 a b d) = xA m c (ix3 a b d) := by
  unfold xS
  blk_ext [iblk, V_main_arg0, idx0]

theorem wqS_at (c : Dev nD) (a : Fin 512) (b : Fin 256) : wqS (F := Ideal) m c (ix2 a b) = wA m c (ix2 a b) := by
  unfold wqS
  blk_ext [iblk, V_main_arg1, idx1]

theorem woS_at (c : Dev nD) (a : Fin 256) (b : Fin 512) : woS (F := Ideal) m c (ix2 a b) = oA m c (ix2 a b) := by
  unfold woS
  blk_ext [iblk, V_main_arg4, idx4]

theorem kS_at (c : Dev nD) (h : Fin 16) (b : Fin 2) (k : Fin 128) (d : Fin 64) :
    kvS (F := Ideal) m 0 c (ix4 h b k d) = kA m c (ix4 b k h d) := by
  have e : V m c main_v1 = transpose S16x2x128x64 [2, 0, 1, 3] (kA m c) transposes_S2x128x16x64_S16x2x128x64_2_0_1_3 := rfl
  unfold kvS iblk
  show V m c main_v1 _ = _
  rw [e]
  pointwise
  blk_ext [idx2]

theorem vS_at (c : Dev nD) (h : Fin 16) (b : Fin 2) (k : Fin 128) (d : Fin 64) :
    kvS (F := Ideal) m 1 c (ix4 h b k d) = vA m c (ix4 b k h d) := by
  have e : V m c main_v2 = transpose S16x2x128x64 [2, 0, 1, 3] (vA m c) transposes_S2x128x16x64_S16x2x128x64_2_0_1_3 := rfl
  unfold kvS iblk
  show V m c main_v2 _ = _
  rw [e]
  pointwise
  blk_ext [idx3]

theorem grp_at (t : Fin 4) (X : S16x2x128x64.Idx → EReal) (h : Fin 4) (b : Fin 2) (k : Fin 128) (d : Fin 64) :
    grp t X (ix4 h b k d) = X (ix4 ⟨4 * t.val + h.val, by omega⟩ b k d) := by
  fin_cases t <;> (show X _ = X _; blk_ext)

/-- The piece of the keys that device `c` collects from device `ch`. -/
theorem pcK_at (ch : Fin 2) (c : Dev nD) (h : Fin 4) (b : Fin 2) (k : Fin 128) (d : Fin 64) :
    pc (F := Ideal) m ch 0 c (ix6 0 0 h b k d) = kA m (chD ch) (ix4 b k ⟨4 * c.val + h.val, by have : c.val < 4 := c.isLt; omega⟩ d) := by
  unfold pc
  pointwise
  unfold src
  rw [grp_at, kS_at]

theorem pcV_at (ch : Fin 2) (c : Dev nD) (h : Fin 4) (b : Fin 2) (k : Fin 128) (d : Fin 64) :
    pc (F := Ideal) m ch 1 c (ix6 0 0 h b k d) = vA m (chD ch) (ix4 b k ⟨4 * c.val + h.val, by have : c.val < 4 := c.isLt; omega⟩ d) := by
  unfold pc
  pointwise
  unfold src
  rw [grp_at, vS_at]

/-- The result array at the end of the run. -/
theorem res_at (c : Dev nD) : (dats (F := Ideal) m c).arrAt 5 cfg0.N = outS m c := by
  rw [← result_end m c]
  funext j
  idx_vars j
  symm
  show (dats (F := Ideal) m c).arrAt 5 cfg0.N _ = _
  blk_ext [idx5]

end Cert.KernelIdeal.Val
-- ==== Proof.Val.Math.lean ====
module

public import Idealize.ShloMosaic.Lib.Pointwise
public import Idealize.ShloMosaic.Lib.IdealHost

@[expose] public section

set_option maxRecDepth 16384

noncomputable section

namespace Cert.Attn

open Idealize.ShloMosaic

/-! ## Real numbers among the extended reals -/

/-- The extended real is a real number. -/
def IsR (a : EReal) : Prop := ∃ r : ℝ, a = (r : EReal)

theorem IsR.mul {a b : EReal} (ha : IsR a) (hb : IsR b) : IsR (a * b) := by
  obtain ⟨r, rfl⟩ := ha
  obtain ⟨s, rfl⟩ := hb
  exact ⟨r * s, (EReal.coe_mul r s).symm⟩

theorem IsR.add {a b : EReal} (ha : IsR a) (hb : IsR b) : IsR (a + b) := by
  obtain ⟨r, rfl⟩ := ha
  obtain ⟨s, rfl⟩ := hb
  exact ⟨r + s, (EReal.coe_add r s).symm⟩

theorem IsR.sum {ι : Type} (t : Finset ι) (f : ι → EReal) (h : ∀ i, IsR (f i)) : IsR (∑ i ∈ t, f i) := by
  classical
  induction t using Finset.induction_on with
  | empty => exact ⟨0, by simp⟩
  | insert a t ha ih =>
    rw [Finset.sum_insert ha]
    exact (h a).add ih

theorem IsR.ne_top {a : EReal} (h : IsR a) : a ≠ ⊤ := by
  obtain ⟨r, rfl⟩ := h
  exact EReal.coe_ne_top r

theorem IsR.ne_bot {a : EReal} (h : IsR a) : a ≠ ⊥ := by
  obtain ⟨r, rfl⟩ := h
  exact EReal.coe_ne_bot r

/-- A number whose absolute value is below infinity is real. -/
theorem isR_of_abs_lt {a : EReal} (h : max a (-a) < ⊤) : IsR a := by
  induction a with
  | bot => simp at h
  | top => simp at h
  | coe r => exact ⟨r, rfl⟩

/-- The scale of the scores. -/
def scale : EReal := Ideal.ofBits FTy.f32 1040187392#32

theorem isR_scale : IsR scale := ⟨_, by simp only [scale, Ideal.ofBits, Ideal.ieee]; simp; rfl⟩

theorem ofBits_bot : Ideal.ofBits FTy.f32 4286578688#32 = ⊥ := by simp [Ideal.ofBits, Ideal.ieee]

/-! ## Softmax-weighted sums -/

/-- The sum of `v` under the softmax weights of the scores `s`. -/
def attn {n : ℕ} (s v : Fin n → EReal) : EReal :=
  ∑ k, Ideal.div (Ideal.exp (s k - Finset.univ.fold max ⊥ s)) (∑ j, Ideal.exp (s j - Finset.univ.fold max ⊥ s)) * v k

theorem exp_nonneg (a : EReal) : 0 ≤ Ideal.exp a := by
  induction a with
  | bot => simp
  | top => exact le_top
  | coe r => rw [Ideal.exp_coe]; exact_mod_cast (Real.exp_pos r).le

theorem exp_pos {a : EReal} (h : a ≠ ⊥) : 0 < Ideal.exp a := by
  induction a with
  | bot => exact absurd rfl h
  | top => exact EReal.zero_lt_top
  | coe r => rw [Ideal.exp_coe]; exact_mod_cast Real.exp_pos r

theorem fold_max_ne_top {n : ℕ} (s : Fin n → EReal) (h : ∀ k, s k ≠ ⊤) : Finset.univ.fold max ⊥ s ≠ ⊤ := by
  have hlt : Finset.univ.fold max ⊥ s < ⊤ := (Finset.fold_max_lt _).mpr ⟨bot_lt_top, fun k _ => lt_top_iff_ne_top.mpr (h k)⟩
  exact hlt.ne

/-- With no infinite score and one that is not masked, the sum of the exponentials is not zero. -/
theorem sum_ne_zero {n : ℕ} (s : Fin n → EReal) (h : ∀ k, s k ≠ ⊤) (k0 : Fin n) (h0 : s k0 ≠ ⊥) :
    ∑ j, Ideal.exp (s j - Finset.univ.fold max ⊥ s) ≠ 0 := by
  have hM := fold_max_ne_top s h
  have h1 : 0 < Ideal.exp (s k0 - Finset.univ.fold max ⊥ s) := by
    refine exp_pos ?_
    rw [sub_eq_add_neg, Ne, EReal.add_eq_bot_iff, not_or]
    exact ⟨h0, by rwa [EReal.neg_eq_bot_iff]⟩
  have h2 : Ideal.exp (s k0 - Finset.univ.fold max ⊥ s) ≤ ∑ j, Ideal.exp (s j - Finset.univ.fold max ⊥ s) :=
    Finset.single_le_sum (f := fun j => Ideal.exp (s j - Finset.univ.fold max ⊥ s)) (fun j _ => exp_nonneg _) (Finset.mem_univ k0)
  exact (h1.trans_le h2).ne'

/-- Masked keys past the first `256` weigh nothing. -/
theorem attn_narrow (s v : Fin 512 → EReal) (hm : ∀ k : Fin 512, 256 ≤ k.val → s k = ⊥) (h : ∀ k, s k ≠ ⊤)
    (k0 : Fin 512) (h0 : s k0 ≠ ⊥) :
    attn s v = attn (fun k : Fin 256 => s ⟨k.val, by omega⟩) (fun k : Fin 256 => v ⟨k.val, by omega⟩) := by
  have hmax : Finset.univ.fold max ⊥ s = Finset.univ.fold max ⊥ (fun k : Fin 256 => s ⟨k.val, by omega⟩) := by
    apply le_antisymm
    · refine (Finset.fold_max_le _).mpr ⟨bot_le, fun k _ => ?_⟩
      by_cases hk : k.val < 256
      · exact Finset.le_fold_max _ |>.mpr (.inr ⟨⟨k.val, hk⟩, Finset.mem_univ _, le_rfl⟩)
      · rw [hm k (by omega)]; exact bot_le
    · refine (Finset.fold_max_le _).mpr ⟨bot_le, fun k _ => ?_⟩
      exact Finset.le_fold_max _ |>.mpr (.inr ⟨⟨k.val, by omega⟩, Finset.mem_univ _, le_rfl⟩)
  have hsplit : ∀ f : Fin 512 → EReal, (∀ k : Fin 512, 256 ≤ k.val → f k = 0) → ∑ k, f k = ∑ k : Fin 256, f ⟨k.val, by omega⟩ := by
    intro f hf
    have e := Fin.sum_univ_add (a := 256) (b := 256) f
    rw [e, Finset.sum_eq_zero (s := Finset.univ) (f := fun i : Fin 256 => f (Fin.natAdd 256 i)), add_zero]
    · rfl
    · intro i _
      exact hf _ (by simp)
  have hS := sum_ne_zero s h k0 h0
  have hz : ∀ k : Fin 512, 256 ≤ k.val → Ideal.exp (s k - Finset.univ.fold max ⊥ s) = 0 := by
    intro k hk
    rw [hm k hk, sub_eq_add_neg, EReal.bot_add, Ideal.exp_bot]
  have hsum := hsplit _ hz
  unfold attn
  rw [hsplit _ (fun k hk => by rw [hz k hk, Ideal.zero_div hS, zero_mul])]
  rw [hsum, hmax]

/-! ## The mask -/

theorem toInt_word {n : ℕ} (h : n < 2 ^ 31) : (BitVec.ofNat 32 n).toInt = n := by
  rw [BitVec.toInt_eq_toNat_of_lt] <;> simp only [BitVec.toNat_ofNat] <;> omega

theorem sub_word {a b : ℕ} (h : b ≤ a) (ha : a < 2 ^ 31) : BitVec.ofNat 32 a - BitVec.ofNat 32 b = BitVec.ofNat 32 (a - b) := by
  apply BitVec.eq_of_toNat_eq
  simp only [BitVec.toNat_sub, BitVec.toNat_ofNat]
  omega

theorem sle_word {a b : ℕ} (ha : a < 2 ^ 31) (hb : b < 2 ^ 31) : (BitVec.ofNat 32 a).sle (BitVec.ofNat 32 b) = decide (a ≤ b) := by
  rw [BitVec.sle, toInt_word ha, toInt_word hb]
  simp

theorem absi_sub_word {a b : ℕ} (ha : a < 2 ^ 31) (hb : b < 2 ^ 31) :
    IntOp.absi (BitVec.ofNat 32 a - BitVec.ofNat 32 b) = BitVec.ofNat 32 (a - b + (b - a)) := by
  unfold IntOp.absi
  by_cases h : b ≤ a
  · have hm : (BitVec.ofNat 32 (a - b)).msb = false := by
      rw [BitVec.msb_eq_decide]; simp only [BitVec.toNat_ofNat, decide_eq_false_iff_not]; omega
    rw [sub_word h ha, hm, show a - b + (b - a) = a - b by omega]
    rfl
  · have hm : (BitVec.ofNat 32 a - BitVec.ofNat 32 b).msb = true := by
      rw [BitVec.msb_eq_decide]; simp only [BitVec.toNat_sub, BitVec.toNat_ofNat, decide_eq_true_eq]; omega
    rw [hm, if_pos rfl, show a - b + (b - a) = b - a by omega, ← sub_word (by omega) hb]
    exact BitVec.neg_sub.trans (by rw [BitVec.add_comm, BitVec.sub_eq_add_neg])

theorem mask_ref {i k : ℕ} (hi : i < 128) (hk : k < 512) :
    IntOp.cmpi CmpIPredicate.sle (IntOp.absi (IntOp.subi (BitVec.ofNat 32 i) (BitVec.ofNat 32 k))) 128#32
      = BitVec.ofBool (decide (k ≤ i + 128)) := by
  unfold IntOp.cmpi IntOp.subi
  rw [absi_sub_word (by omega) (by omega)]
  show BitVec.ofBool ((BitVec.ofNat 32 _).sle (BitVec.ofNat 32 128)) = _
  rw [sle_word (by omega) (by omega)]
  congr 1
  rw [decide_eq_decide]
  omega

theorem mask_ker {i k : ℕ} (hi : i < 128) (hk : k < 256) :
    IntOp.cmpi CmpIPredicate.sle (IntOp.subi (BitVec.ofNat 32 k) (BitVec.ofNat 32 i)) 128#32
      = BitVec.ofBool (decide (k ≤ i + 128)) := by
  unfold IntOp.cmpi IntOp.subi
  by_cases h : i ≤ k
  · rw [sub_word h (by omega)]
    show BitVec.ofBool ((BitVec.ofNat 32 _).sle (BitVec.ofNat 32 128)) = _
    rw [sle_word (by omega) (by omega)]
    congr 1
    rw [decide_eq_decide]
    omega
  · show BitVec.ofBool (BitVec.sle _ _) = _
    congr 1
    rw [show decide (k ≤ i + 128) = true from decide_eq_true (by omega), BitVec.sle, decide_eq_true_eq,
      BitVec.toInt_eq_toNat_cond, BitVec.toInt_eq_toNat_cond]
    simp only [BitVec.toNat_sub, BitVec.toNat_ofNat]
    split_ifs <;> omega

theorem select_ofBool {p : Prop} [Decidable p] (a b : EReal) :
    Scalar.select (BitVec.ofBool (decide p)) a b = if p then a else b := by
  by_cases h : p <;> simp [Scalar.select, h]

/-! ## The scores and the result over the whole arrays -/

abbrev XArr := (⟨3, ![2, 128, 512]⟩ : Shape).Idx → EReal
abbrev QArr := (⟨2, ![512, 1024]⟩ : Shape).Idx → EReal
abbrev KArr := (⟨4, ![2, 512, 16, 64]⟩ : Shape).Idx → EReal
abbrev OArr := (⟨2, ![1024, 512]⟩ : Shape).Idx → EReal

/-- The masked score of query `i` and key `k` of head `h` in batch `b`. -/
def sc (x : XArr) (w : QArr) (K : KArr) (b : Fin 2) (h : Fin 16) (i : Fin 128) (k : Fin 512) : EReal :=
  if k.val ≤ i.val + 128 then
    (∑ d : Fin 64, (∑ e : Fin 512, x (ix3 b i e) * w (ix2 e ⟨h.val * 64 + d.val, by omega⟩)) * K (ix4 b k h d)) * scale
  else ⊥

/-- The attention output at column `y` of the concatenated heads. -/
def head (x : XArr) (w : QArr) (K V : KArr) (b : Fin 2) (i : Fin 128) (y : Fin 1024) : EReal :=
  attn (sc x w K b ⟨y.val / 64, by omega⟩ i) (fun k => V (ix4 b k ⟨y.val / 64, by omega⟩ ⟨y.val % 64, by omega⟩))

/-- The result. -/
def out (x : XArr) (w : QArr) (K V : KArr) (o : OArr) (b : Fin 2) (i : Fin 128) (n : Fin 512) : EReal :=
  ∑ y : Fin 1024, head x w K V b i y * o (ix2 y n)

/-- With real inputs, the scores of the keys not masked are real. -/
theorem sc_isR {x : XArr} {w : QArr} {K : KArr} (hx : ∀ j, IsR (x j)) (hw : ∀ j, IsR (w j)) (hK : ∀ j, IsR (K j))
    (b : Fin 2) (h : Fin 16) (i : Fin 128) (k : Fin 512) (hk : k.val ≤ i.val + 128) : IsR (sc x w K b h i k) := by
  unfold sc
  rw [if_pos hk]
  exact (IsR.sum _ _ fun d => (IsR.sum _ _ fun e => (hx _).mul (hw _)).mul (hK _)).mul isR_scale

theorem sc_ne_top {x : XArr} {w : QArr} {K : KArr} (hx : ∀ j, IsR (x j)) (hw : ∀ j, IsR (w j)) (hK : ∀ j, IsR (K j))
    (b : Fin 2) (h : Fin 16) (i : Fin 128) (k : Fin 512) : sc x w K b h i k ≠ ⊤ := by
  by_cases hk : k.val ≤ i.val + 128
  · exact (sc_isR hx hw hK b h i k hk).ne_top
  · unfold sc
    rw [if_neg hk]
    exact bot_ne_top

/-- A sum over the columns of all heads, device by device. -/
theorem sum_devices (f : Fin 1024 → EReal) :
    ∑ y, f y = ∑ c : Fin 4, ∑ y : Fin 256, f ⟨256 * c.val + y.val, by omega⟩ := by
  rw [Fin.sum_univ_four, Fin.sum_univ_add (a := 256) (b := 768) f, Fin.sum_univ_add (a := 256) (b := 512), Fin.sum_univ_add (a := 256) (b := 256)]
  rw [← add_assoc, ← add_assoc]
  rfl

end Cert.Attn
-- ==== Proof.Val.Pay.lean ====
module

public import proofs.«01_k».proof.Proof.Gen.KernelIdeal.Skeleton
public import proofs.«01_k».proof.Proof.Val.Math

@[expose] public section

set_option maxRecDepth 16384

noncomputable section

namespace Cert.KernelIdeal.Val

open Cert.KernelIdeal Cert.KernelIdeal.Gen Cert.Attn Idealize.ShloMosaic

/-- The named mask is minus infinity. -/
theorem mask_bot : Named.named (F := Ideal) (φ := .f32) κ "mask" 3463342888#32 = (⊥ : EReal) := rfl

/-- The queries of a device. -/
theorem pay6_at (x : S2x128x512.Idx → EReal) (w : S512x256.Idx → EReal) (g : Fin 8) (q : Fin 128) (d : Fin 64) :
    k0_pay6 (F := Ideal) (k0_pay5 (F := Ideal) x) w (ix3 g q d)
      = ∑ e : Fin 512, x (ix3 ⟨g.val % 2, by omega⟩ q e) * w (ix2 e ⟨g.val / 2 * 64 + d.val, by omega⟩) := by
  pointwise [k0_pay6, k0_pay5]
  refine Finset.sum_congr rfl fun e _ => ?_
  have e1 : (g.val % 2 * 128 + q.val) / 128 = g.val % 2 := by omega
  simp only [e1]

/-- The keys a device has collected, the second device's after the first's. -/
theorem pay7_at (k0 k1 : S1x1x4x2x128x64.Idx → EReal) (g : Fin 8) (k : Fin 256) (d : Fin 64) :
    k0_pay7 (F := Ideal) k0 k1 (ix3 g k d)
      = if h : k.val < 128 then k0 (ix6 0 0 ⟨g.val / 2, by omega⟩ ⟨g.val % 2, by omega⟩ ⟨k.val, h⟩ d)
        else k1 (ix6 0 0 ⟨g.val / 2, by omega⟩ ⟨g.val % 2, by omega⟩ ⟨k.val - 128, by omega⟩ d) := by
  pointwise [k0_pay7]

/-- What a device contributes, from its queries, keys and values. -/
theorem pay9_at (q : S8x128x64.Idx → EReal) (K : S8x256x64.Idx → EReal) (v0 : S4x2x128x64.Idx → EReal)
    (v1 : S1x1x4x2x128x64.Idx → EReal) (wo : S256x512.Idx → EReal) (b : Fin 2) (i : Fin 128) (n : Fin 512) :
    k0_pay9 (F := Ideal) q K v0 v1 wo (ix4 0 b i n)
      = ∑ y : Fin 256, attn (fun k : Fin 256 => if k.val ≤ i.val + 128 then
            (∑ e : Fin 64, q (ix3 ⟨y.val / 64 * 2 + b.val, by omega⟩ i e) * K (ix3 ⟨y.val / 64 * 2 + b.val, by omega⟩ k e)) * scale else ⊥)
          (fun k => if h : k.val < 128 then v0 (ix4 ⟨y.val / 64, by omega⟩ b ⟨k.val, h⟩ ⟨y.val % 64, by omega⟩)
            else v1 (ix6 0 0 ⟨y.val / 64, by omega⟩ b ⟨k.val - 128, by omega⟩ ⟨y.val % 64, by omega⟩)) * wo (ix2 y n) := by
  pointwise [k0_pay9, attn]
  simp (disch := omega) only [mask_ker, select_ofBool, ofBits_bot, mask_bot]
  refine Finset.sum_congr rfl fun y _ => ?_
  have e1 : (y.val / 64 * 2 + b.val) / 2 = y.val / 64 := by omega
  simp only [e1]
  rfl

/-- The sum of the four parts. -/
theorem pay10_at (p0 p1 p2 p3 : S1x2x128x512.Idx → EReal) (b : Fin 2) (i : Fin 128) (n : Fin 512) :
    k0_pay10 (F := Ideal) p0 p1 p2 p3 (ix3 b i n)
      = p0 (ix4 0 b i n) + p1 (ix4 0 b i n) + (p2 (ix4 0 b i n) + p3 (ix4 0 b i n)) := by
  pointwise [k0_pay10]

end Cert.KernelIdeal.Val
-- ==== Proof.Val.Part.lean ====
module

public import proofs.«01_k».proof.Proof.Val.Blocks
public import proofs.«01_k».proof.Proof.Val.Pay
public import Mathlib.Tactic.Abel

@[expose] public section

set_option maxRecDepth 16384

noncomputable section

namespace Cert.KernelIdeal.Val

open Cert.KernelIdeal Cert.KernelIdeal.Gen Cert.KernelIdeal.Talk Cert.Attn Idealize.ShloMosaic Idealize.ShloMosaic.TcCoe Idealize.SL.Sem

variable (m : (ℓ : Loc nD τ sig) → Buf (Elt Ideal) ℓ)

/-- The devices' arrays are the blocks of the whole arrays. -/
structure Agree (x : XArr) (w : QArr) (K V : KArr) (o : OArr) : Prop where
  hx : ∀ c b i e, xA m c (ix3 b i e) = x (ix3 b i e)
  hw : ∀ (c : Dev nD) (e : Fin 512) (y : Fin 256), wA m c (ix2 e y) = w (ix2 e ⟨256 * c.val + y.val, by have : c.val < 4 := c.isLt; omega⟩)
  hK : ∀ (c : Dev nD) b (k : Fin 128) h d, kA m c (ix4 b k h d) = K (ix4 b ⟨128 * c.val + k.val, by have : c.val < 4 := c.isLt; omega⟩ h d)
  hV : ∀ (c : Dev nD) b (k : Fin 128) h d, vA m c (ix4 b k h d) = V (ix4 b ⟨128 * c.val + k.val, by have : c.val < 4 := c.isLt; omega⟩ h d)
  ho : ∀ (c : Dev nD) (y : Fin 256) (n : Fin 512), oA m c (ix2 y n) = o (ix2 ⟨256 * c.val + y.val, by have : c.val < 4 := c.isLt; omega⟩ n)

variable {m} {x : XArr} {w : QArr} {K V : KArr} {o : OArr}

/-- The queries of device `c` are the columns of its heads. -/
theorem q_at (H : Agree m x w K V o) (c : Dev nD) (h : Fin 4) (b : Fin 2) (i : Fin 128) (d : Fin 64) :
    k0_pay6 (F := Ideal) (k0_pay5 (F := Ideal) (xS m c)) (wqS m c) (ix3 ⟨h.val * 2 + b.val, by omega⟩ i d)
      = ∑ e : Fin 512, x (ix3 b i e) * w (ix2 e ⟨(4 * c.val + h.val) * 64 + d.val, by have : c.val < 4 := c.isLt; omega⟩) := by
  rw [pay6_at]
  refine Finset.sum_congr rfl fun e _ => ?_
  rw [xS_at, wqS_at, H.hx, H.hw]
  have e1 : (h.val * 2 + b.val) % 2 = b.val := by omega
  have e2 : 256 * c.val + ((h.val * 2 + b.val) / 2 * 64 + d.val) = (4 * c.val + h.val) * 64 + d.val := by omega
  simp only [e1, e2]

/-- The keys device `c` has collected are the first `256` keys of its heads. -/
theorem k_at (H : Agree m x w K V o) (c : Dev nD) (h : Fin 4) (b : Fin 2) (k : Fin 256) (d : Fin 64) :
    k0_pay7 (F := Ideal) (pc m 0 0 c) (pc m 1 0 c) (ix3 ⟨h.val * 2 + b.val, by omega⟩ k d)
      = K (ix4 b ⟨k.val, by omega⟩ ⟨4 * c.val + h.val, by have : c.val < 4 := c.isLt; omega⟩ d) := by
  rw [pay7_at]
  have e1 : (h.val * 2 + b.val) % 2 = b.val := by omega
  have e2 : (h.val * 2 + b.val) / 2 = h.val := by omega
  simp only [e1, e2]
  split
  · rw [pcK_at, H.hK]
    have e3 : 128 * (chD 0).val + k.val = k.val := by show 128 * 0 + k.val = _; omega
    simp only [e3]
  · rw [pcK_at, H.hK]
    have e3 : 128 * (chD 1).val + (k.val - 128) = k.val := by show 128 * 1 + _ = _; omega
    simp only [e3]

/-- What device `c` contributes: its heads' columns of the result. -/
theorem part_at (H : Agree m x w K V o) (hx : ∀ j, IsR (x j)) (hw : ∀ j, IsR (w j)) (hK : ∀ j, IsR (K j)) (c : Dev nD)
    (b : Fin 2) (i : Fin 128) (n : Fin 512) :
    part (F := Ideal) m c (ix4 0 b i n)
      = ∑ y : Fin 256, head x w K V b i ⟨256 * c.val + y.val, by have : c.val < 4 := c.isLt; omega⟩
          * o (ix2 ⟨256 * c.val + y.val, by have : c.val < 4 := c.isLt; omega⟩ n) := by
  have hc : c.val < 4 := c.isLt
  unfold part
  rw [pay9_at]
  refine Finset.sum_congr rfl fun y _ => ?_
  rw [woS_at, H.ho]
  refine congrArg (· * _) ?_
  unfold head
  rw [attn_narrow _ _ (fun k hk => by unfold sc; rw [if_neg (by omega)]) (sc_ne_top hx hw hK b _ i) ⟨0, by omega⟩
    (sc_isR hx hw hK b _ i _ (by simp)).ne_bot]
  have e1 : (256 * c.val + y.val) / 64 = 4 * c.val + y.val / 64 := by omega
  have e2 : (256 * c.val + y.val) % 64 = y.val % 64 := by omega
  refine congrArg₂ attn ?_ ?_
  · funext k
    unfold sc
    refine if_congr Iff.rfl ?_ rfl
    refine congrArg (· * _) (Finset.sum_congr rfl fun d _ => ?_)
    rw [q_at H c ⟨y.val / 64, by omega⟩ b i d, k_at H c ⟨y.val / 64, by omega⟩ b k d]
    simp only [e1]
  · funext k
    simp only [e1, e2]
    split
    · rw [show k0_pay8 (F := Ideal) (pc m 0 1 c) (ix4 ⟨y.val / 64, by omega⟩ b ⟨k.val, by omega⟩ ⟨y.val % 64, by omega⟩)
          = pc (F := Ideal) m 0 1 c (ix6 0 0 ⟨y.val / 64, by omega⟩ b ⟨k.val, by omega⟩ ⟨y.val % 64, by omega⟩) by pointwise [k0_pay8], pcV_at, H.hV]
      have e3 : 128 * (chD 0).val + k.val = k.val := by show 128 * 0 + k.val = _; omega
      simp only [e3]
    · rw [pcV_at, H.hV]
      have e3 : 128 * (chD 1).val + (k.val - 128) = k.val := by show 128 * 1 + _ = _; omega
      simp only [e3]

/-- Whatever device sums, the four parts are summed. -/
theorem sum_parts (g : Fin 4 → EReal) (c : Dev nD) :
    g c + g (fr 0 c) + (g (fr 1 c) + g (fr 2 c)) = ∑ d : Fin 4, g d := by
  rw [Fin.sum_univ_four]
  have hc : ∀ c : Dev nD, (c = 0 ∧ fr 0 c = 3 ∧ fr 1 c = 1 ∧ fr 2 c = 2) ∨ (c = 1 ∧ fr 0 c = 0 ∧ fr 1 c = 2 ∧ fr 2 c = 3)
      ∨ (c = 2 ∧ fr 0 c = 1 ∧ fr 1 c = 3 ∧ fr 2 c = 0) ∨ (c = 3 ∧ fr 0 c = 2 ∧ fr 1 c = 0 ∧ fr 2 c = 1) := by decide
  rcases hc c with ⟨h, h0, h1, h2⟩ | ⟨h, h0, h1, h2⟩ | ⟨h, h0, h1, h2⟩ | ⟨h, h0, h1, h2⟩
  · rw [h0, h1, h2, h]
    show g 0 + g 3 + (g 1 + g 2) = g 0 + g 1 + g 2 + g 3
    abel
  · rw [h0, h1, h2, h]
    show g 1 + g 0 + (g 2 + g 3) = g 0 + g 1 + g 2 + g 3
    abel
  · rw [h0, h1, h2, h]
    show g 2 + g 1 + (g 3 + g 0) = g 0 + g 1 + g 2 + g 3
    abel
  · rw [h0, h1, h2, h]
    show g 3 + g 2 + (g 0 + g 1) = g 0 + g 1 + g 2 + g 3
    abel

/-- The result on every device. -/
theorem out_at (H : Agree m x w K V o) (hx : ∀ j, IsR (x j)) (hw : ∀ j, IsR (w j)) (hK : ∀ j, IsR (K j)) (c : Dev nD)
    (b : Fin 2) (i : Fin 128) (n : Fin 512) : outS (F := Ideal) m c (ix3 b i n) = out x w K V o b i n := by
  unfold outS out
  rw [pay10_at, sum_devices]
  simp only [part_at H hx hw hK]
  exact sum_parts (fun d : Fin 4 => ∑ y : Fin 256, head x w K V b i ⟨256 * d.val + y.val, by omega⟩
    * o (ix2 ⟨256 * d.val + y.val, by omega⟩ n)) c

end Cert.KernelIdeal.Val
-- ==== Proof.Val.Ref.lean ====
module

public import proofs.«01_k».proof.Proof.Gen.ReferenceIdeal.Run
public import proofs.«01_k».proof.Proof.Val.Math
public import Idealize.ShloMosaic.Lib.Tactic.CleanTypes
public import Idealize.ShloMosaic.Lib.Routing.OpsOrder

@[expose] public section

set_option maxRecDepth 16384

noncomputable section

namespace Cert.ReferenceIdeal.Val

open Cert.ReferenceIdeal Cert.ReferenceIdeal.Gen Cert.ReferenceIdeal.Value Cert.Attn Idealize.ShloMosaic Idealize.ShloMosaic.TcCoe Idealize.SL.Sem

/-- Every query keeps a key. -/
theorem keep (i : Fin 128) :
    Finset.fold IntOp.ori (0#1) (fun k : Fin 512 => BitVec.ofBool (decide (k.val ≤ i.val + 128))) Finset.univ = 1#1 := by
  rw [Routing.fold_ori]
  exact ⟨⟨0, by omega⟩, by simp⟩

/-- The reference's result, at an index. -/
theorem res_at (m : (ℓ : Loc nD τ sig) → Buf (Elt Ideal) ℓ) (c : Dev nD) (b : Fin 2) (i : Fin 128) (n : Fin 512) :
    (show S2x128x512.Idx → EReal from res_main_v39 m c) (ix3 b i n)
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b i n := by
  show res_main_v39 m c (ix3 b i n) = _
  unfold res_main_v39
  clean_types
  generalize m ((c.tc : Thread nD τ).loc main_arg0) = x
  generalize m ((c.tc : Thread nD τ).loc main_arg1) = w
  generalize m ((c.tc : Thread nD τ).loc main_arg2) = K
  generalize m ((c.tc : Thread nD τ).loc main_arg3) = V
  generalize m ((c.tc : Thread nD τ).loc main_arg4) = wo
  pointwise
  have hb : (id (constant (F := Ideal) S_ FTy.f32 4286578688#32) ix0 : EReal) = ⊥ := ofBits_bot
  simp (disch := omega) only [mask_ref, keep, hb, ofBits_bot]
  simp only [select_ofBool, show ∀ a b : EReal, Scalar.select (1#1) a b = a from fun _ _ => rfl]
  unfold out head attn
  refine Finset.sum_congr rfl fun y _ => ?_
  refine congrArg (· * _) ?_
  refine Finset.sum_congr rfl fun k _ => ?_
  rw [mul_comm]
  rfl

end Cert.ReferenceIdeal.Val
-- ==== Proof.Val.Pre.lean ====
module

public import proofs.«01_k».proof.Pre_finite_KernelIdeal
public import proofs.«01_k».proof.Pre_finite_ReferenceIdeal
public import proofs.«01_k».proof.Proof.Val.Math
public import Idealize.ShloMosaic.Lib.ReduceAll

@[expose] public section

set_option maxRecDepth 16384

noncomputable section

namespace Cert.Pre_finite_ReferenceIdeal

open Idealize.ShloMosaic

theorem facts : Facts where
  bitsLt_bf16_f32 := by decide
  bcast_S_S2x128x512 := by decide
  reducesTo_S2x128x512_S_d0_1_2 := by decide
  h_S_ := by decide
  bcast_S_S512x1024 := by decide
  reducesTo_S512x1024_S_d0_1 := by decide
  bcast_S_S2x512x16x64 := by decide
  reducesTo_S2x512x16x64_S_d0_1_2_3 := by decide

end Cert.Pre_finite_ReferenceIdeal

namespace Cert.Pre_finite_KernelIdeal

open Cert.Attn Idealize.ShloMosaic

theorem facts : Facts where
  bitsLt_bf16_f32 := by decide
  bcast_S_S2x128x512 := by decide
  reducesTo_S2x128x512_S_d0_1_2 := by decide
  h_S_ := by decide
  bcast_S_S512x256 := by decide
  reducesTo_S512x256_S_d0_1 := by decide
  bcast_S_S2x128x16x64 := by decide
  reducesTo_S2x128x16x64_S_d0_1_2_3 := by decide

theorem and_one {a b : BitVec 1} (h : IntOp.andi a b = 1#1) : a = 1#1 ∧ b = 1#1 := by
  revert a b
  decide

theorem one_index (i j : S_.Idx) : i = j := funext fun a => a.elim0

/-- An element that passes the test is real. -/
theorem real_of_test {a : EReal} (h : FloatOps.cmpf (F := Ideal) (φ := .f32) .olt (FloatOps.absf (F := Ideal) (φ := .f32) a) (Ideal.ofBits FTy.f32 0x7F800000#32) = 1#1) :
    IsR a := by
  have ht : Ideal.ofBits FTy.f32 0x7F800000#32 = ⊤ := by simp [Ideal.ofBits, Ideal.ieee]
  rw [ht, Ideal.cmpf_def, Ideal.absf_def] at h
  refine isR_of_abs_lt ?_
  by_contra hn
  have h2 : BitVec.ofBool (decide (max a (-a) < (⊤ : EReal))) = 1#1 := h
  rw [decide_eq_false hn] at h2
  exact absurd h2 (by decide)

/-- The precondition, element by element. -/
theorem real_of [hF : Facts] (x : S2x128x512.Idx → EReal) (w : S512x256.Idx → EReal) (K V : S2x128x16x64.Idx → EReal) (o : S256x512.Idx → EReal)
    (h : fn (F := Ideal) x w K V o = fun _ => 1#1) :
    (∀ j, IsR (x j)) ∧ (∀ j, IsR (w j)) ∧ (∀ j, IsR (K j)) := by
  have h0 := congrFun h ix0
  obtain ⟨h1, hK⟩ := and_one h0
  obtain ⟨hx, hw⟩ := and_one h1
  haveI : Subsingleton S_.Idx := ⟨one_index⟩
  exact ⟨fun j => real_of_test (Host.reduce_andi_all _ _ _ _ _ hx j), fun j => real_of_test (Host.reduce_andi_all _ _ _ _ _ hw j),
    fun j => real_of_test (Host.reduce_andi_all _ _ _ _ _ hK j)⟩

end Cert.Pre_finite_KernelIdeal
-- ==== Proof.lean ====
/- The proof of the certificate's claims: the runs of the program and of its idealization by Proof/K and Proof/KI, the
   reference's by its list of operations; their results are compared element by element by Proof/Val. -/
module

public import proofs.«01_k».proof.Defs
public import proofs.«01_k».proof.Proof.Gen.ReferenceIdeal
public import proofs.«01_k».proof.Proof.Gen.ReferenceIdeal.Run
public import proofs.«01_k».proof.Proof.K.Launch
public import proofs.«01_k».proof.Proof.KI.Launch
public import proofs.«01_k».proof.Proof.Val.Part
public import proofs.«01_k».proof.Proof.Val.Ref
public import proofs.«01_k».proof.Proof.Val.Pre
public import Idealize.ShloMosaic.Lib.LayoutAt
public import Idealize.ShloMosaic.Adequacy
public import Idealize.ShloMosaic.Init

@[expose] public section

noncomputable section

namespace Cert.Proof

open Idealize.ShloMosaic Idealize.SL.Sem

theorem frame_p : Cert.quiescent_Kernel (hKernel := Cert.Kernel.Gen.facts) := fun m ρ _ =>
  (θ_run Cert.Kernel.defs _ _).mono (fun _ h => ⟨fun c => (h.1 c).2, h.2⟩) (Cert.Kernel.Talk.run_main (F := Bits) m ρ)

theorem frame_pi : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Talk.run_main (F := Ideal) m ρ)

theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xCE6E6B28#32 ⊥ rfl

theorem frame_pi_pre : Cert.quiescent_KernelIdeal_pre_finite_KernelIdeal (hKernelIdeal := Cert.KernelIdeal.Gen.facts)
    (hPre_finite_KernelIdeal := Cert.Pre_finite_KernelIdeal.facts) := fun m ρ _ => frame_pi m ρ trivial

theorem frame_ri_pre : Cert.quiescent_ReferenceIdeal_pre_finite_ReferenceIdeal (hReferenceIdeal := Cert.ReferenceIdeal.Gen.facts)
    (hPre_finite_ReferenceIdeal := Cert.Pre_finite_ReferenceIdeal.facts) := fun m ρ _ => frame_ri m ρ trivial

section Values

open Cert.Attn Cert.KernelIdeal.Val

/-- A block of columns, at an index. -/
theorem block_w (c : Fin 4) (X : QArr) (e : Fin 512) (y : Fin 256) :
    Layout.block ⟨2, ![512, 256]⟩ ⟨2, ![512, 1024]⟩ 1 4 c X (by decide) (ix2 e y) = X (ix2 e ⟨256 * c.val + y.val, by omega⟩) := by
  shard_ext

/-- A block of keys or values, at an index. -/
theorem block_k (c : Fin 4) (X : KArr) (b : Fin 2) (k : Fin 128) (h : Fin 16) (d : Fin 64) :
    Layout.block ⟨4, ![2, 128, 16, 64]⟩ ⟨4, ![2, 512, 16, 64]⟩ 1 4 c X (by decide) (ix4 b k h d) = X (ix4 b ⟨128 * c.val + k.val, by omega⟩ h d) := by
  shard_ext

/-- A block of rows, at an index. -/
theorem block_o (c : Fin 4) (X : OArr) (y : Fin 256) (n : Fin 512) :
    Layout.block ⟨2, ![256, 512]⟩ ⟨2, ![1024, 512]⟩ 0 4 c X (by decide) (ix2 y n) = X (ix2 ⟨256 * c.val + y.val, by omega⟩ n) := by
  shard_ext

/-- A whole array whose blocks of columns are real is real. -/
theorem real_w (X : QArr) (h : ∀ (c : Fin 4) (e : Fin 512) (y : Fin 256), IsR (X (ix2 e ⟨256 * c.val + y.val, by omega⟩))) (j) : IsR (X j) := by
  obtain ⟨e, y, rfl⟩ : ∃ (e : Fin 512) (y : Fin 1024), j = ix2 e y := ⟨j 0, j 1, eq_ix2 j⟩
  have h1 := h ⟨y.val / 256, by omega⟩ e ⟨y.val % 256, by omega⟩
  have e1 : 256 * (y.val / 256) + y.val % 256 = y.val := by omega
  simpa only [e1] using h1

/-- A whole array whose blocks of keys are real is real. -/
theorem real_k (X : KArr)
    (h : ∀ (c : Fin 4) (b : Fin 2) (k : Fin 128) (a : Fin 16) (d : Fin 64), IsR (X (ix4 b ⟨128 * c.val + k.val, by omega⟩ a d))) (j) : IsR (X j) := by
  obtain ⟨b, k, a, d, rfl⟩ : ∃ (b : Fin 2) (k : Fin 512) (a : Fin 16) (d : Fin 64), j = ix4 b k a d := ⟨j 0, j 1, j 2, j 3, eq_ix4 j⟩
  have h1 := h ⟨k.val / 128, by omega⟩ b ⟨k.val % 128, by omega⟩ a d
  have e1 : 128 * (k.val / 128) + k.val % 128 = k.val := by omega
  simpa only [e1] using h1

end Values

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.facts) := by
  intro m ρ m' ρ' hpre hagree
  have H : Cert.KernelIdeal.Val.Agree m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c b i e => congrFun (hagree c).1 _, fun c e y => (congrFun (hagree c).2.1 _).trans (block_w c _ e y),
      fun c b k h d => (congrFun (hagree c).2.2.1 _).trans (block_k c _ b k h d),
      fun c b k h d => (congrFun (hagree c).2.2.2.1 _).trans (block_k c _ b k h d),
      fun c y n => (congrFun (hagree c).2.2.2.2 _).trans (block_o c _ y n)⟩
  have hreal := fun c => Cert.Pre_finite_KernelIdeal.real_of (hF := Cert.Pre_finite_KernelIdeal.facts) _ _ _ _ _ (hpre c)
  refine ⟨_, ?_, (θ_run Cert.ReferenceIdeal.defs _ _).mono (fun r h => h 0) (Cert.ReferenceIdeal.Value.run (F := Ideal) m' ρ')⟩
  refine (θ_run Cert.KernelIdeal.defs _ _).mono (fun r h c => ⟨((h.1 c).1.trans (Cert.KernelIdeal.Val.res_at m c)).trans ?_, (h.1 c).2⟩)
    (Cert.KernelIdeal.Talk.run_main (F := Ideal) m ρ)
  funext j
  obtain ⟨b, i, n, rfl⟩ : ∃ (b : Fin 2) (i : Fin 128) (n : Fin 512), j = ix3 b i n := ⟨j 0, j 1, j 2, eq_ix3 j⟩
  refine (Cert.KernelIdeal.Val.out_at H (fun j => ?_) (real_w _ fun c e y => ?_) (real_k _ fun c b k a d => ?_) c b i n).trans
    (Cert.ReferenceIdeal.Val.res_at m' 0 b i n).symm
  · have h0 := (hreal 0).1 j
    rw [(hagree 0).1] at h0
    exact h0
  · rw [← H.hw c e y]
    exact (hreal c).2.1 _
  · rw [← H.hK c b k a d]
    exact (hreal c).2.2 _

theorem claim : Cert.Claim :=
  ⟨Cert.Kernel.Gen.facts, Cert.KernelIdeal.Gen.facts, Cert.ReferenceIdeal.Gen.facts, Cert.Pre_finite_KernelIdeal.facts,
    Cert.Pre_finite_ReferenceIdeal.facts, frame_p, frame_pi, frame_pi_pre, frame_ri, frame_ri_pre, preserves, algebraic⟩

end Cert.Proof

end
